-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S8x512x4096 : Shape := ⟨3, ![8, 512, 4096]⟩
abbrev S42 : Shape := ⟨1, ![42]⟩
abbrev S3x8x2 : Shape := ⟨3, ![3, 8, 2]⟩
abbrev S_ : Shape := ⟨0, ![]⟩
abbrev S80x4096 : Shape := ⟨2, ![80, 4096]⟩
abbrev S1x80x4096 : Shape := ⟨3, ![1, 80, 4096]⟩
abbrev S1 : Shape := ⟨1, ![1]⟩
abbrev S1x1x1 : Shape := ⟨3, ![1, 1, 1]⟩
abbrev S96x4096 : Shape := ⟨2, ![96, 4096]⟩
abbrev S1x96x4096 : Shape := ⟨3, ![1, 96, 4096]⟩
abbrev S1x176x4096 : Shape := ⟨3, ![1, 176, 4096]⟩
abbrev S176x4096 : Shape := ⟨2, ![176, 4096]⟩
abbrev S176x256 : Shape := ⟨2, ![176, 256]⟩
abbrev S1x160x4096 : Shape := ⟨3, ![1, 160, 4096]⟩
abbrev S160x4096 : Shape := ⟨2, ![160, 4096]⟩
abbrev S160x256 : Shape := ⟨2, ![160, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S8x512x4096, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v9 : BitVec 32 := Scalar.xori v7 c1_i32_1
  let c4_i32_3 : BitVec 32 := 4#32
  let v11 : BitVec 32 := Scalar.andi v9 c4_i32_3
  let c3_i32_2 : BitVec 32 := 3#32
  let v10 : BitVec 32 := Scalar.andi v9 c3_i32_2
  let c1_i32_4 : BitVec 32 := 1#32
  let v12 : BitVec 32 := Scalar.shrsi v10 c1_i32_4
  let v13 : BitVec 32 := Scalar.xori v10 v12
  let v14 : BitVec 32 := Scalar.ori v11 v13
  let c1_i32_6 : BitVec 32 := 1#32
  let v15 : BitVec 32 := Scalar.muli v14 c1_i32_6
  let v16 : BitVec 32 := Scalar.addi c0_i32 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v17 : BitVec 32 := Scalar.xori v7 c2_i32
  let c4_i32_8 : BitVec 32 := 4#32
  let v19 : BitVec 32 := Scalar.andi v17 c4_i32_8
  let c3_i32_7 : BitVec 32 := 3#32
  let v18 : BitVec 32 := Scalar.andi v17 c3_i32_7
  let c1_i32_9 : BitVec 32 := 1#32
  let v20 : BitVec 32 := Scalar.shrsi v18 c1_i32_9
  let v21 : BitVec 32 := Scalar.xori v18 v20
  let v22 : BitVec 32 := Scalar.ori v19 v21
  let c1_i32_11 : BitVec 32 := 1#32
  let v23 : BitVec 32 := Scalar.muli v22 c1_i32_11
  let v24 : BitVec 32 := Scalar.addi c0_i32_12 v23
  v24.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_13 : BitVec 32 := 4#32
  let v25 : BitVec 32 := Scalar.xori v7 c4_i32_13
  let c4_i32_15 : BitVec 32 := 4#32
  let v27 : BitVec 32 := Scalar.andi v25 c4_i32_15
  let c3_i32_14 : BitVec 32 := 3#32
  let v26 : BitVec 32 := Scalar.andi v25 c3_i32_14
  let c1_i32_16 : BitVec 32 := 1#32
  let v28 : BitVec 32 := Scalar.shrsi v26 c1_i32_16
  let v29 : BitVec 32 := Scalar.xori v26 v28
  let v30 : BitVec 32 := Scalar.ori v27 v29
  let c1_i32_18 : BitVec 32 := 1#32
  let v31 : BitVec 32 := Scalar.muli v30 c1_i32_18
  let v32 : BitVec 32 := Scalar.addi c0_i32_19 v31
  v32.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : Index := Scalar.indexCast v2
  let c0_22 : Index := 0#32
  let c0_23 : Index := 0#32
  ![v35.toNat, 0, 0]
def k0_off2 (d0 : Dev nD) (c0_i32_24 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v39 : BitVec 32 := Scalar.xori v7 c0_i32_24
  let c4_i32_26 : BitVec 32 := 4#32
  let v41 : BitVec 32 := Scalar.andi v39 c4_i32_26
  let c3_i32_25 : BitVec 32 := 3#32
  let v40 : BitVec 32 := Scalar.andi v39 c3_i32_25
  let c1_i32_27 : BitVec 32 := 1#32
  let v42 : BitVec 32 := Scalar.shrsi v40 c1_i32_27
  let v43 : BitVec 32 := Scalar.xori v40 v42
  let v44 : BitVec 32 := Scalar.ori v41 v43
  let c0_i32_38 : BitVec 32 := 0#32
  let c0_i32_39 : BitVec 32 := 0#32
  ![v44.toNat, 0, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_28 : BitVec 32 := 1#32
  let v45 : BitVec 32 := Scalar.xori v7 c1_i32_28
  let c4_i32_30 : BitVec 32 := 4#32
  let v47 : BitVec 32 := Scalar.andi v45 c4_i32_30
  let c3_i32_29 : BitVec 32 := 3#32
  let v46 : BitVec 32 := Scalar.andi v45 c3_i32_29
  let c1_i32_31 : BitVec 32 := 1#32
  let v48 : BitVec 32 := Scalar.shrsi v46 c1_i32_31
  let v49 : BitVec 32 := Scalar.xori v46 v48
  let v50 : BitVec 32 := Scalar.ori v47 v49
  let c1_i32_36 : BitVec 32 := 1#32
  let v51 : BitVec 32 := Scalar.muli v50 c1_i32_36
  let v52 : BitVec 32 := Scalar.addi c0_i32_37 v51
  v52.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : Index := Scalar.indexCast v2
  let c176_43 : Index := 176#32
  let c0_44 : Index := 0#32
  ![v63.toNat, 176, 0]
def k0_off4 (d0 : Dev nD) (c0_i32_45 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v67 : BitVec 32 := Scalar.xori v7 c0_i32_45
  let c4_i32_47 : BitVec 32 := 4#32
  let v69 : BitVec 32 := Scalar.andi v67 c4_i32_47
  let c3_i32_46 : BitVec 32 := 3#32
  let v68 : BitVec 32 := Scalar.andi v67 c3_i32_46
  let c1_i32_48 : BitVec 32 := 1#32
  let v70 : BitVec 32 := Scalar.shrsi v68 c1_i32_48
  let v71 : BitVec 32 := Scalar.xori v68 v70
  let v72 : BitVec 32 := Scalar.ori v69 v71
  let c176_i32 : BitVec 32 := 176#32
  let c0_i32_59 : BitVec 32 := 0#32
  ![v72.toNat, 176, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_49 : BitVec 32 := 2#32
  let v73 : BitVec 32 := Scalar.xori v7 c2_i32_49
  let c4_i32_51 : BitVec 32 := 4#32
  let v75 : BitVec 32 := Scalar.andi v73 c4_i32_51
  let c3_i32_50 : BitVec 32 := 3#32
  let v74 : BitVec 32 := Scalar.andi v73 c3_i32_50
  let c1_i32_52 : BitVec 32 := 1#32
  let v76 : BitVec 32 := Scalar.shrsi v74 c1_i32_52
  let v77 : BitVec 32 := Scalar.xori v74 v76
  let v78 : BitVec 32 := Scalar.ori v75 v77
  let c1_i32_57 : BitVec 32 := 1#32
  let v79 : BitVec 32 := Scalar.muli v78 c1_i32_57
  let v80 : BitVec 32 := Scalar.addi c0_i32_58 v79
  v80.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v91 : Index := Scalar.indexCast v2
  let c352_63 : Index := 352#32
  let c0_64 : Index := 0#32
  ![v91.toNat, 352, 0]
def k0_off6 (d0 : Dev nD) (c0_i32_65 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v95 : BitVec 32 := Scalar.xori v7 c0_i32_65
  let c4_i32_67 : BitVec 32 := 4#32
  let v97 : BitVec 32 := Scalar.andi v95 c4_i32_67
  let c3_i32_66 : BitVec 32 := 3#32
  let v96 : BitVec 32 := Scalar.andi v95 c3_i32_66
  let c1_i32_68 : BitVec 32 := 1#32
  let v98 : BitVec 32 := Scalar.shrsi v96 c1_i32_68
  let v99 : BitVec 32 := Scalar.xori v96 v98
  let v100 : BitVec 32 := Scalar.ori v97 v99
  let c352_i32 : BitVec 32 := 352#32
  let c0_i32_79 : BitVec 32 := 0#32
  ![v100.toNat, 352, 0]
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_69 : BitVec 32 := 4#32
  let v101 : BitVec 32 := Scalar.xori v7 c4_i32_69
  let c4_i32_71 : BitVec 32 := 4#32
  let v103 : BitVec 32 := Scalar.andi v101 c4_i32_71
  let c3_i32_70 : BitVec 32 := 3#32
  let v102 : BitVec 32 := Scalar.andi v101 c3_i32_70
  let c1_i32_72 : BitVec 32 := 1#32
  let v104 : BitVec 32 := Scalar.shrsi v102 c1_i32_72
  let v105 : BitVec 32 := Scalar.xori v102 v104
  let v106 : BitVec 32 := Scalar.ori v103 v105
  let c1_i32_77 : BitVec 32 := 1#32
  let v107 : BitVec 32 := Scalar.muli v106 c1_i32_77
  let v108 : BitVec 32 := Scalar.addi c0_i32_78 v107
  v108.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v119 : Index := Scalar.indexCast v2
  let c80_83 : Index := 80#32
  let c0_84 : Index := 0#32
  ![v119.toNat, 80, 0]
def k0_off8 (d0 : Dev nD) (c0_i32_85 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v123 : BitVec 32 := Scalar.xori v7 c0_i32_85
  let c4_i32_87 : BitVec 32 := 4#32
  let v125 : BitVec 32 := Scalar.andi v123 c4_i32_87
  let c3_i32_86 : BitVec 32 := 3#32
  let v124 : BitVec 32 := Scalar.andi v123 c3_i32_86
  let c1_i32_88 : BitVec 32 := 1#32
  let v126 : BitVec 32 := Scalar.shrsi v124 c1_i32_88
  let v127 : BitVec 32 := Scalar.xori v124 v126
  let v128 : BitVec 32 := Scalar.ori v125 v127
  let c80_i32 : BitVec 32 := 80#32
  let c0_i32_99 : BitVec 32 := 0#32
  ![v128.toNat, 80, 0]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_89 : BitVec 32 := 1#32
  let v129 : BitVec 32 := Scalar.xori v7 c1_i32_89
  let c4_i32_91 : BitVec 32 := 4#32
  let v131 : BitVec 32 := Scalar.andi v129 c4_i32_91
  let c3_i32_90 : BitVec 32 := 3#32
  let v130 : BitVec 32 := Scalar.andi v129 c3_i32_90
  let c1_i32_92 : BitVec 32 := 1#32
  let v132 : BitVec 32 := Scalar.shrsi v130 c1_i32_92
  let v133 : BitVec 32 := Scalar.xori v130 v132
  let v134 : BitVec 32 := Scalar.ori v131 v133
  let c1_i32_97 : BitVec 32 := 1#32
  let v135 : BitVec 32 := Scalar.muli v134 c1_i32_97
  let v136 : BitVec 32 := Scalar.addi c0_i32_98 v135
  v136.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : Index := Scalar.indexCast v2
  let c256_103 : Index := 256#32
  let c0_104 : Index := 0#32
  ![v147.toNat, 256, 0]
def k0_off10 (d0 : Dev nD) (c0_i32_105 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v151 : BitVec 32 := Scalar.xori v7 c0_i32_105
  let c4_i32_107 : BitVec 32 := 4#32
  let v153 : BitVec 32 := Scalar.andi v151 c4_i32_107
  let c3_i32_106 : BitVec 32 := 3#32
  let v152 : BitVec 32 := Scalar.andi v151 c3_i32_106
  let c1_i32_108 : BitVec 32 := 1#32
  let v154 : BitVec 32 := Scalar.shrsi v152 c1_i32_108
  let v155 : BitVec 32 := Scalar.xori v152 v154
  let v156 : BitVec 32 := Scalar.ori v153 v155
  let c256_i32 : BitVec 32 := 256#32
  let c0_i32_119 : BitVec 32 := 0#32
  ![v156.toNat, 256, 0]
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_109 : BitVec 32 := 2#32
  let v157 : BitVec 32 := Scalar.xori v7 c2_i32_109
  let c4_i32_111 : BitVec 32 := 4#32
  let v159 : BitVec 32 := Scalar.andi v157 c4_i32_111
  let c3_i32_110 : BitVec 32 := 3#32
  let v158 : BitVec 32 := Scalar.andi v157 c3_i32_110
  let c1_i32_112 : BitVec 32 := 1#32
  let v160 : BitVec 32 := Scalar.shrsi v158 c1_i32_112
  let v161 : BitVec 32 := Scalar.xori v158 v160
  let v162 : BitVec 32 := Scalar.ori v159 v161
  let c1_i32_117 : BitVec 32 := 1#32
  let v163 : BitVec 32 := Scalar.muli v162 c1_i32_117
  let v164 : BitVec 32 := Scalar.addi c0_i32_118 v163
  v164.toNat
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : Index := Scalar.indexCast v2
  let c432_123 : Index := 432#32
  let c0_124 : Index := 0#32
  ![v175.toNat, 432, 0]
def k0_off12 (d0 : Dev nD) (c0_i32_125 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v179 : BitVec 32 := Scalar.xori v7 c0_i32_125
  let c4_i32_127 : BitVec 32 := 4#32
  let v181 : BitVec 32 := Scalar.andi v179 c4_i32_127
  let c3_i32_126 : BitVec 32 := 3#32
  let v180 : BitVec 32 := Scalar.andi v179 c3_i32_126
  let c1_i32_128 : BitVec 32 := 1#32
  let v182 : BitVec 32 := Scalar.shrsi v180 c1_i32_128
  let v183 : BitVec 32 := Scalar.xori v180 v182
  let v184 : BitVec 32 := Scalar.ori v181 v183
  let c432_i32 : BitVec 32 := 432#32
  let c0_i32_138 : BitVec 32 := 0#32
  ![v184.toNat, 432, 0]
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_129 : BitVec 32 := 4#32
  let v185 : BitVec 32 := Scalar.xori v7 c4_i32_129
  let c4_i32_131 : BitVec 32 := 4#32
  let v187 : BitVec 32 := Scalar.andi v185 c4_i32_131
  let c3_i32_130 : BitVec 32 := 3#32
  let v186 : BitVec 32 := Scalar.andi v185 c3_i32_130
  let c1_i32_132 : BitVec 32 := 1#32
  let v188 : BitVec 32 := Scalar.shrsi v186 c1_i32_132
  let v189 : BitVec 32 := Scalar.xori v186 v188
  let v190 : BitVec 32 := Scalar.ori v187 v189
  let c1_i32_136 : BitVec 32 := 1#32
  let v191 : BitVec 32 := Scalar.muli v190 c1_i32_136
  let v192 : BitVec 32 := Scalar.addi c0_i32_137 v191
  v192.toNat
def k0_off13 (d0 : Dev nD) (c0_i32_143 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v203 : BitVec 32 := Scalar.xori v7 c0_i32_143
  let c4_i32_145 : BitVec 32 := 4#32
  let v205 : BitVec 32 := Scalar.andi v203 c4_i32_145
  let c3_i32_144 : BitVec 32 := 3#32
  let v204 : BitVec 32 := Scalar.andi v203 c3_i32_144
  let c1_i32_146 : BitVec 32 := 1#32
  let v206 : BitVec 32 := Scalar.shrsi v204 c1_i32_146
  let v207 : BitVec 32 := Scalar.xori v204 v206
  let v208 : BitVec 32 := Scalar.ori v205 v207
  let v209 : Index := Scalar.indexCast v208
  let c0_147 : Index := 0#32
  let c0_148 : Index := 0#32
  ![v209.toNat, 0, 0]
def k0_off14 (d0 : Dev nD) (c0_i32_143 : BitVec 32) (c0_i32_153 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v203 : BitVec 32 := Scalar.xori v7 c0_i32_143
  let c4_i32_145 : BitVec 32 := 4#32
  let v205 : BitVec 32 := Scalar.andi v203 c4_i32_145
  let c3_i32_144 : BitVec 32 := 3#32
  let v204 : BitVec 32 := Scalar.andi v203 c3_i32_144
  let c1_i32_146 : BitVec 32 := 1#32
  let v206 : BitVec 32 := Scalar.shrsi v204 c1_i32_146
  let v207 : BitVec 32 := Scalar.xori v204 v206
  let v208 : BitVec 32 := Scalar.ori v205 v207
  let c512_i32 : BitVec 32 := 512#32
  let v226 : BitVec 32 := Scalar.muli v208 c512_i32
  let v227 : BitVec 32 := Scalar.addi v226 c0_i32_153
  let v228 : Index := Scalar.indexCast v227
  let c0_154 : Index := 0#32
  ![v228.toNat, 0]
def k0_off15 (d0 : Dev nD) (c0_i32_155 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v230 : BitVec 32 := Scalar.xori v7 c0_i32_155
  let c4_i32_157 : BitVec 32 := 4#32
  let v232 : BitVec 32 := Scalar.andi v230 c4_i32_157
  let c3_i32_156 : BitVec 32 := 3#32
  let v231 : BitVec 32 := Scalar.andi v230 c3_i32_156
  let c1_i32_158 : BitVec 32 := 1#32
  let v233 : BitVec 32 := Scalar.shrsi v231 c1_i32_158
  let v234 : BitVec 32 := Scalar.xori v231 v233
  let v235 : BitVec 32 := Scalar.ori v232 v234
  let v236 : Index := Scalar.indexCast v235
  let c176_159 : Index := 176#32
  let c0_160 : Index := 0#32
  ![v236.toNat, 176, 0]
def k0_off16 (d0 : Dev nD) (c0_i32_169 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v257 : BitVec 32 := Scalar.xori v7 c0_i32_169
  let c4_i32_171 : BitVec 32 := 4#32
  let v259 : BitVec 32 := Scalar.andi v257 c4_i32_171
  let c3_i32_170 : BitVec 32 := 3#32
  let v258 : BitVec 32 := Scalar.andi v257 c3_i32_170
  let c1_i32_172 : BitVec 32 := 1#32
  let v260 : BitVec 32 := Scalar.shrsi v258 c1_i32_172
  let v261 : BitVec 32 := Scalar.xori v258 v260
  let v262 : BitVec 32 := Scalar.ori v259 v261
  let v263 : Index := Scalar.indexCast v262
  let c352_173 : Index := 352#32
  let c0_174 : Index := 0#32
  ![v263.toNat, 352, 0]
def k0_off17 (d0 : Dev nD) (c0_i32_169 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v257 : BitVec 32 := Scalar.xori v7 c0_i32_169
  let c4_i32_171 : BitVec 32 := 4#32
  let v259 : BitVec 32 := Scalar.andi v257 c4_i32_171
  let c3_i32_170 : BitVec 32 := 3#32
  let v258 : BitVec 32 := Scalar.andi v257 c3_i32_170
  let c1_i32_172 : BitVec 32 := 1#32
  let v260 : BitVec 32 := Scalar.shrsi v258 c1_i32_172
  let v261 : BitVec 32 := Scalar.xori v258 v260
  let v262 : BitVec 32 := Scalar.ori v259 v261
  let c512_i32_180 : BitVec 32 := 512#32
  let v280 : BitVec 32 := Scalar.muli v262 c512_i32_180
  let c352_i32_181 : BitVec 32 := 352#32
  let v281 : BitVec 32 := Scalar.addi v280 c352_i32_181
  let v282 : Index := Scalar.indexCast v281
  let c0_182 : Index := 0#32
  ![v282.toNat, 0]
def k0_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_201 : BitVec 32 := 2#32
  let v304 : BitVec 32 := Scalar.xori v7 c2_i32_201
  let c4_i32_203 : BitVec 32 := 4#32
  let v306 : BitVec 32 := Scalar.andi v304 c4_i32_203
  let c3_i32_202 : BitVec 32 := 3#32
  let v305 : BitVec 32 := Scalar.andi v304 c3_i32_202
  let c1_i32_204 : BitVec 32 := 1#32
  let v307 : BitVec 32 := Scalar.shrsi v305 c1_i32_204
  let v308 : BitVec 32 := Scalar.xori v305 v307
  let v309 : BitVec 32 := Scalar.ori v306 v308
  let c1_i32_208 : BitVec 32 := 1#32
  let v310 : BitVec 32 := Scalar.muli v309 c1_i32_208
  let v311 : BitVec 32 := Scalar.addi c0_i32_209 v310
  v311.toNat
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_218 : BitVec 32 := 4#32
  let v326 : BitVec 32 := Scalar.xori v7 c4_i32_218
  let c4_i32_220 : BitVec 32 := 4#32
  let v328 : BitVec 32 := Scalar.andi v326 c4_i32_220
  let c3_i32_219 : BitVec 32 := 3#32
  let v327 : BitVec 32 := Scalar.andi v326 c3_i32_219
  let c1_i32_221 : BitVec 32 := 1#32
  let v329 : BitVec 32 := Scalar.shrsi v327 c1_i32_221
  let v330 : BitVec 32 := Scalar.xori v327 v329
  let v331 : BitVec 32 := Scalar.ori v328 v330
  let c1_i32_225 : BitVec 32 := 1#32
  let v332 : BitVec 32 := Scalar.muli v331 c1_i32_225
  let v333 : BitVec 32 := Scalar.addi c0_i32_226 v332
  v333.toNat
def k0_dev12 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_249 : BitVec 32 := 4#32
  let v362 : BitVec 32 := Scalar.xori v7 c4_i32_249
  let c4_i32_251 : BitVec 32 := 4#32
  let v364 : BitVec 32 := Scalar.andi v362 c4_i32_251
  let c3_i32_250 : BitVec 32 := 3#32
  let v363 : BitVec 32 := Scalar.andi v362 c3_i32_250
  let c1_i32_252 : BitVec 32 := 1#32
  let v365 : BitVec 32 := Scalar.shrsi v363 c1_i32_252
  let v366 : BitVec 32 := Scalar.xori v363 v365
  let v367 : BitVec 32 := Scalar.ori v364 v366
  let c1_i32_257 : BitVec 32 := 1#32
  let v368 : BitVec 32 := Scalar.muli v367 c1_i32_257
  let v369 : BitVec 32 := Scalar.addi c0_i32_258 v368
  v369.toNat
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_267 : BitVec 32 := 1#32
  let v384 : BitVec 32 := Scalar.xori v7 c1_i32_267
  let c4_i32_269 : BitVec 32 := 4#32
  let v386 : BitVec 32 := Scalar.andi v384 c4_i32_269
  let c3_i32_268 : BitVec 32 := 3#32
  let v385 : BitVec 32 := Scalar.andi v384 c3_i32_268
  let c1_i32_270 : BitVec 32 := 1#32
  let v387 : BitVec 32 := Scalar.shrsi v385 c1_i32_270
  let v388 : BitVec 32 := Scalar.xori v385 v387
  let v389 : BitVec 32 := Scalar.ori v386 v388
  let c1_i32_274 : BitVec 32 := 1#32
  let v390 : BitVec 32 := Scalar.muli v389 c1_i32_274
  let v391 : BitVec 32 := Scalar.addi c0_i32_275 v390
  v391.toNat
def k0_dev14 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_298 : BitVec 32 := 1#32
  let v420 : BitVec 32 := Scalar.xori v7 c1_i32_298
  let c4_i32_300 : BitVec 32 := 4#32
  let v422 : BitVec 32 := Scalar.andi v420 c4_i32_300
  let c3_i32_299 : BitVec 32 := 3#32
  let v421 : BitVec 32 := Scalar.andi v420 c3_i32_299
  let c1_i32_301 : BitVec 32 := 1#32
  let v423 : BitVec 32 := Scalar.shrsi v421 c1_i32_301
  let v424 : BitVec 32 := Scalar.xori v421 v423
  let v425 : BitVec 32 := Scalar.ori v422 v424
  let c1_i32_305 : BitVec 32 := 1#32
  let v426 : BitVec 32 := Scalar.muli v425 c1_i32_305
  let v427 : BitVec 32 := Scalar.addi c0_i32_306 v426
  v427.toNat
def k0_dev15 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_315 : BitVec 32 := 2#32
  let v442 : BitVec 32 := Scalar.xori v7 c2_i32_315
  let c4_i32_317 : BitVec 32 := 4#32
  let v444 : BitVec 32 := Scalar.andi v442 c4_i32_317
  let c3_i32_316 : BitVec 32 := 3#32
  let v443 : BitVec 32 := Scalar.andi v442 c3_i32_316
  let c1_i32_318 : BitVec 32 := 1#32
  let v445 : BitVec 32 := Scalar.shrsi v443 c1_i32_318
  let v446 : BitVec 32 := Scalar.xori v443 v445
  let v447 : BitVec 32 := Scalar.ori v444 v446
  let c1_i32_322 : BitVec 32 := 1#32
  let v448 : BitVec 32 := Scalar.muli v447 c1_i32_322
  let v449 : BitVec 32 := Scalar.addi c0_i32_323 v448
  v449.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_346 : BitVec 32 := 2#32
  let v478 : BitVec 32 := Scalar.xori v7 c2_i32_346
  let c4_i32_348 : BitVec 32 := 4#32
  let v480 : BitVec 32 := Scalar.andi v478 c4_i32_348
  let c3_i32_347 : BitVec 32 := 3#32
  let v479 : BitVec 32 := Scalar.andi v478 c3_i32_347
  let c1_i32_349 : BitVec 32 := 1#32
  let v481 : BitVec 32 := Scalar.shrsi v479 c1_i32_349
  let v482 : BitVec 32 := Scalar.xori v479 v481
  let v483 : BitVec 32 := Scalar.ori v480 v482
  let c1_i32_353 : BitVec 32 := 1#32
  let v484 : BitVec 32 := Scalar.muli v483 c1_i32_353
  let v485 : BitVec 32 := Scalar.addi c0_i32_354 v484
  v485.toNat
def k0_dev17 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_363 : BitVec 32 := 4#32
  let v500 : BitVec 32 := Scalar.xori v7 c4_i32_363
  let c4_i32_365 : BitVec 32 := 4#32
  let v502 : BitVec 32 := Scalar.andi v500 c4_i32_365
  let c3_i32_364 : BitVec 32 := 3#32
  let v501 : BitVec 32 := Scalar.andi v500 c3_i32_364
  let c1_i32_366 : BitVec 32 := 1#32
  let v503 : BitVec 32 := Scalar.shrsi v501 c1_i32_366
  let v504 : BitVec 32 := Scalar.xori v501 v503
  let v505 : BitVec 32 := Scalar.ori v502 v504
  let c1_i32_370 : BitVec 32 := 1#32
  let v506 : BitVec 32 := Scalar.muli v505 c1_i32_370
  let v507 : BitVec 32 := Scalar.addi c0_i32_371 v506
  v507.toNat
def k0_dev18 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_394 : BitVec 32 := 4#32
  let v536 : BitVec 32 := Scalar.xori v7 c4_i32_394
  let c4_i32_396 : BitVec 32 := 4#32
  let v538 : BitVec 32 := Scalar.andi v536 c4_i32_396
  let c3_i32_395 : BitVec 32 := 3#32
  let v537 : BitVec 32 := Scalar.andi v536 c3_i32_395
  let c1_i32_397 : BitVec 32 := 1#32
  let v539 : BitVec 32 := Scalar.shrsi v537 c1_i32_397
  let v540 : BitVec 32 := Scalar.xori v537 v539
  let v541 : BitVec 32 := Scalar.ori v538 v540
  let c1_i32_401 : BitVec 32 := 1#32
  let v542 : BitVec 32 := Scalar.muli v541 c1_i32_401
  let v543 : BitVec 32 := Scalar.addi c0_i32_402 v542
  v543.toNat
def k0_dev19 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_411 : BitVec 32 := 1#32
  let v558 : BitVec 32 := Scalar.xori v7 c1_i32_411
  let c4_i32_413 : BitVec 32 := 4#32
  let v560 : BitVec 32 := Scalar.andi v558 c4_i32_413
  let c3_i32_412 : BitVec 32 := 3#32
  let v559 : BitVec 32 := Scalar.andi v558 c3_i32_412
  let c1_i32_414 : BitVec 32 := 1#32
  let v561 : BitVec 32 := Scalar.shrsi v559 c1_i32_414
  let v562 : BitVec 32 := Scalar.xori v559 v561
  let v563 : BitVec 32 := Scalar.ori v560 v562
  let c1_i32_418 : BitVec 32 := 1#32
  let v564 : BitVec 32 := Scalar.muli v563 c1_i32_418
  let v565 : BitVec 32 := Scalar.addi c0_i32_419 v564
  v565.toNat
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_442 : BitVec 32 := 1#32
  let v594 : BitVec 32 := Scalar.xori v7 c1_i32_442
  let c4_i32_444 : BitVec 32 := 4#32
  let v596 : BitVec 32 := Scalar.andi v594 c4_i32_444
  let c3_i32_443 : BitVec 32 := 3#32
  let v595 : BitVec 32 := Scalar.andi v594 c3_i32_443
  let c1_i32_445 : BitVec 32 := 1#32
  let v597 : BitVec 32 := Scalar.shrsi v595 c1_i32_445
  let v598 : BitVec 32 := Scalar.xori v595 v597
  let v599 : BitVec 32 := Scalar.ori v596 v598
  let c1_i32_449 : BitVec 32 := 1#32
  let v600 : BitVec 32 := Scalar.muli v599 c1_i32_449
  let v601 : BitVec 32 := Scalar.addi c0_i32_450 v600
  v601.toNat
def k0_dev21 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_459 : BitVec 32 := 2#32
  let v616 : BitVec 32 := Scalar.xori v7 c2_i32_459
  let c4_i32_461 : BitVec 32 := 4#32
  let v618 : BitVec 32 := Scalar.andi v616 c4_i32_461
  let c3_i32_460 : BitVec 32 := 3#32
  let v617 : BitVec 32 := Scalar.andi v616 c3_i32_460
  let c1_i32_462 : BitVec 32 := 1#32
  let v619 : BitVec 32 := Scalar.shrsi v617 c1_i32_462
  let v620 : BitVec 32 := Scalar.xori v617 v619
  let v621 : BitVec 32 := Scalar.ori v618 v620
  let c1_i32_466 : BitVec 32 := 1#32
  let v622 : BitVec 32 := Scalar.muli v621 c1_i32_466
  let v623 : BitVec 32 := Scalar.addi c0_i32_467 v622
  v623.toNat
def k0_dev22 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_532 : BitVec 32 := 4#32
  let v733 : BitVec 32 := Scalar.xori v7 c4_i32_532
  let c4_i32_534 : BitVec 32 := 4#32
  let v735 : BitVec 32 := Scalar.andi v733 c4_i32_534
  let c3_i32_533 : BitVec 32 := 3#32
  let v734 : BitVec 32 := Scalar.andi v733 c3_i32_533
  let c1_i32_535 : BitVec 32 := 1#32
  let v736 : BitVec 32 := Scalar.shrsi v734 c1_i32_535
  let v737 : BitVec 32 := Scalar.xori v734 v736
  let v738 : BitVec 32 := Scalar.ori v735 v737
  let c1_i32_539 : BitVec 32 := 1#32
  let v739 : BitVec 32 := Scalar.muli v738 c1_i32_539
  let v740 : BitVec 32 := Scalar.addi c0_i32_540 v739
  v740.toNat
def k0_dev23 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_549 : BitVec 32 := 1#32
  let v755 : BitVec 32 := Scalar.xori v7 c1_i32_549
  let c4_i32_551 : BitVec 32 := 4#32
  let v757 : BitVec 32 := Scalar.andi v755 c4_i32_551
  let c3_i32_550 : BitVec 32 := 3#32
  let v756 : BitVec 32 := Scalar.andi v755 c3_i32_550
  let c1_i32_552 : BitVec 32 := 1#32
  let v758 : BitVec 32 := Scalar.shrsi v756 c1_i32_552
  let v759 : BitVec 32 := Scalar.xori v756 v758
  let v760 : BitVec 32 := Scalar.ori v757 v759
  let c1_i32_556 : BitVec 32 := 1#32
  let v761 : BitVec 32 := Scalar.muli v760 c1_i32_556
  let v762 : BitVec 32 := Scalar.addi c0_i32_557 v761
  v762.toNat
def k0_dev24 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_580 : BitVec 32 := 1#32
  let v791 : BitVec 32 := Scalar.xori v7 c1_i32_580
  let c4_i32_582 : BitVec 32 := 4#32
  let v793 : BitVec 32 := Scalar.andi v791 c4_i32_582
  let c3_i32_581 : BitVec 32 := 3#32
  let v792 : BitVec 32 := Scalar.andi v791 c3_i32_581
  let c1_i32_583 : BitVec 32 := 1#32
  let v794 : BitVec 32 := Scalar.shrsi v792 c1_i32_583
  let v795 : BitVec 32 := Scalar.xori v792 v794
  let v796 : BitVec 32 := Scalar.ori v793 v795
  let c1_i32_587 : BitVec 32 := 1#32
  let v797 : BitVec 32 := Scalar.muli v796 c1_i32_587
  let v798 : BitVec 32 := Scalar.addi c0_i32_588 v797
  v798.toNat
def k0_dev25 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_611 : BitVec 32 := 1#32
  let v827 : BitVec 32 := Scalar.xori v7 c1_i32_611
  let c4_i32_613 : BitVec 32 := 4#32
  let v829 : BitVec 32 := Scalar.andi v827 c4_i32_613
  let c3_i32_612 : BitVec 32 := 3#32
  let v828 : BitVec 32 := Scalar.andi v827 c3_i32_612
  let c1_i32_614 : BitVec 32 := 1#32
  let v830 : BitVec 32 := Scalar.shrsi v828 c1_i32_614
  let v831 : BitVec 32 := Scalar.xori v828 v830
  let v832 : BitVec 32 := Scalar.ori v829 v831
  let c1_i32_618 : BitVec 32 := 1#32
  let v833 : BitVec 32 := Scalar.muli v832 c1_i32_618
  let v834 : BitVec 32 := Scalar.addi c0_i32_619 v833
  v834.toNat
def k0_dev26 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_628 : BitVec 32 := 2#32
  let v849 : BitVec 32 := Scalar.xori v7 c2_i32_628
  let c4_i32_630 : BitVec 32 := 4#32
  let v851 : BitVec 32 := Scalar.andi v849 c4_i32_630
  let c3_i32_629 : BitVec 32 := 3#32
  let v850 : BitVec 32 := Scalar.andi v849 c3_i32_629
  let c1_i32_631 : BitVec 32 := 1#32
  let v852 : BitVec 32 := Scalar.shrsi v850 c1_i32_631
  let v853 : BitVec 32 := Scalar.xori v850 v852
  let v854 : BitVec 32 := Scalar.ori v851 v853
  let c1_i32_635 : BitVec 32 := 1#32
  let v855 : BitVec 32 := Scalar.muli v854 c1_i32_635
  let v856 : BitVec 32 := Scalar.addi c0_i32_636 v855
  v856.toNat
def k0_dev27 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_659 : BitVec 32 := 2#32
  let v885 : BitVec 32 := Scalar.xori v7 c2_i32_659
  let c4_i32_661 : BitVec 32 := 4#32
  let v887 : BitVec 32 := Scalar.andi v885 c4_i32_661
  let c3_i32_660 : BitVec 32 := 3#32
  let v886 : BitVec 32 := Scalar.andi v885 c3_i32_660
  let c1_i32_662 : BitVec 32 := 1#32
  let v888 : BitVec 32 := Scalar.shrsi v886 c1_i32_662
  let v889 : BitVec 32 := Scalar.xori v886 v888
  let v890 : BitVec 32 := Scalar.ori v887 v889
  let c1_i32_666 : BitVec 32 := 1#32
  let v891 : BitVec 32 := Scalar.muli v890 c1_i32_666
  let v892 : BitVec 32 := Scalar.addi c0_i32_667 v891
  v892.toNat
def k0_dev28 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_690 : BitVec 32 := 2#32
  let v921 : BitVec 32 := Scalar.xori v7 c2_i32_690
  let c4_i32_692 : BitVec 32 := 4#32
  let v923 : BitVec 32 := Scalar.andi v921 c4_i32_692
  let c3_i32_691 : BitVec 32 := 3#32
  let v922 : BitVec 32 := Scalar.andi v921 c3_i32_691
  let c1_i32_693 : BitVec 32 := 1#32
  let v924 : BitVec 32 := Scalar.shrsi v922 c1_i32_693
  let v925 : BitVec 32 := Scalar.xori v922 v924
  let v926 : BitVec 32 := Scalar.ori v923 v925
  let c1_i32_697 : BitVec 32 := 1#32
  let v927 : BitVec 32 := Scalar.muli v926 c1_i32_697
  let v928 : BitVec 32 := Scalar.addi c0_i32_698 v927
  v928.toNat
def k0_dev29 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_707 : BitVec 32 := 4#32
  let v943 : BitVec 32 := Scalar.xori v7 c4_i32_707
  let c4_i32_709 : BitVec 32 := 4#32
  let v945 : BitVec 32 := Scalar.andi v943 c4_i32_709
  let c3_i32_708 : BitVec 32 := 3#32
  let v944 : BitVec 32 := Scalar.andi v943 c3_i32_708
  let c1_i32_710 : BitVec 32 := 1#32
  let v946 : BitVec 32 := Scalar.shrsi v944 c1_i32_710
  let v947 : BitVec 32 := Scalar.xori v944 v946
  let v948 : BitVec 32 := Scalar.ori v945 v947
  let c1_i32_714 : BitVec 32 := 1#32
  let v949 : BitVec 32 := Scalar.muli v948 c1_i32_714
  let v950 : BitVec 32 := Scalar.addi c0_i32_715 v949
  v950.toNat
def k0_dev30 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_738 : BitVec 32 := 4#32
  let v979 : BitVec 32 := Scalar.xori v7 c4_i32_738
  let c4_i32_740 : BitVec 32 := 4#32
  let v981 : BitVec 32 := Scalar.andi v979 c4_i32_740
  let c3_i32_739 : BitVec 32 := 3#32
  let v980 : BitVec 32 := Scalar.andi v979 c3_i32_739
  let c1_i32_741 : BitVec 32 := 1#32
  let v982 : BitVec 32 := Scalar.shrsi v980 c1_i32_741
  let v983 : BitVec 32 := Scalar.xori v980 v982
  let v984 : BitVec 32 := Scalar.ori v981 v983
  let c1_i32_745 : BitVec 32 := 1#32
  let v985 : BitVec 32 := Scalar.muli v984 c1_i32_745
  let v986 : BitVec 32 := Scalar.addi c0_i32_746 v985
  v986.toNat
def k0_dev31 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_769 : BitVec 32 := 4#32
  let v1015 : BitVec 32 := Scalar.xori v7 c4_i32_769
  let c4_i32_771 : BitVec 32 := 4#32
  let v1017 : BitVec 32 := Scalar.andi v1015 c4_i32_771
  let c3_i32_770 : BitVec 32 := 3#32
  let v1016 : BitVec 32 := Scalar.andi v1015 c3_i32_770
  let c1_i32_772 : BitVec 32 := 1#32
  let v1018 : BitVec 32 := Scalar.shrsi v1016 c1_i32_772
  let v1019 : BitVec 32 := Scalar.xori v1016 v1018
  let v1020 : BitVec 32 := Scalar.ori v1017 v1019
  let c1_i32_776 : BitVec 32 := 1#32
  let v1021 : BitVec 32 := Scalar.muli v1020 c1_i32_776
  let v1022 : BitVec 32 := Scalar.addi c0_i32_777 v1021
  v1022.toNat
def k0_dev32 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_786 : BitVec 32 := 1#32
  let v1037 : BitVec 32 := Scalar.xori v7 c1_i32_786
  let c4_i32_788 : BitVec 32 := 4#32
  let v1039 : BitVec 32 := Scalar.andi v1037 c4_i32_788
  let c3_i32_787 : BitVec 32 := 3#32
  let v1038 : BitVec 32 := Scalar.andi v1037 c3_i32_787
  let c1_i32_789 : BitVec 32 := 1#32
  let v1040 : BitVec 32 := Scalar.shrsi v1038 c1_i32_789
  let v1041 : BitVec 32 := Scalar.xori v1038 v1040
  let v1042 : BitVec 32 := Scalar.ori v1039 v1041
  let c1_i32_793 : BitVec 32 := 1#32
  let v1043 : BitVec 32 := Scalar.muli v1042 c1_i32_793
  let v1044 : BitVec 32 := Scalar.addi c0_i32_794 v1043
  v1044.toNat
def k0_dev33 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_817 : BitVec 32 := 1#32
  let v1073 : BitVec 32 := Scalar.xori v7 c1_i32_817
  let c4_i32_819 : BitVec 32 := 4#32
  let v1075 : BitVec 32 := Scalar.andi v1073 c4_i32_819
  let c3_i32_818 : BitVec 32 := 3#32
  let v1074 : BitVec 32 := Scalar.andi v1073 c3_i32_818
  let c1_i32_820 : BitVec 32 := 1#32
  let v1076 : BitVec 32 := Scalar.shrsi v1074 c1_i32_820
  let v1077 : BitVec 32 := Scalar.xori v1074 v1076
  let v1078 : BitVec 32 := Scalar.ori v1075 v1077
  let c1_i32_824 : BitVec 32 := 1#32
  let v1079 : BitVec 32 := Scalar.muli v1078 c1_i32_824
  let v1080 : BitVec 32 := Scalar.addi c0_i32_825 v1079
  v1080.toNat
def k0_dev34 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_848 : BitVec 32 := 1#32
  let v1109 : BitVec 32 := Scalar.xori v7 c1_i32_848
  let c4_i32_850 : BitVec 32 := 4#32
  let v1111 : BitVec 32 := Scalar.andi v1109 c4_i32_850
  let c3_i32_849 : BitVec 32 := 3#32
  let v1110 : BitVec 32 := Scalar.andi v1109 c3_i32_849
  let c1_i32_851 : BitVec 32 := 1#32
  let v1112 : BitVec 32 := Scalar.shrsi v1110 c1_i32_851
  let v1113 : BitVec 32 := Scalar.xori v1110 v1112
  let v1114 : BitVec 32 := Scalar.ori v1111 v1113
  let c1_i32_855 : BitVec 32 := 1#32
  let v1115 : BitVec 32 := Scalar.muli v1114 c1_i32_855
  let v1116 : BitVec 32 := Scalar.addi c0_i32_856 v1115
  v1116.toNat
def k0_dev35 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_865 : BitVec 32 := 2#32
  let v1131 : BitVec 32 := Scalar.xori v7 c2_i32_865
  let c4_i32_867 : BitVec 32 := 4#32
  let v1133 : BitVec 32 := Scalar.andi v1131 c4_i32_867
  let c3_i32_866 : BitVec 32 := 3#32
  let v1132 : BitVec 32 := Scalar.andi v1131 c3_i32_866
  let c1_i32_868 : BitVec 32 := 1#32
  let v1134 : BitVec 32 := Scalar.shrsi v1132 c1_i32_868
  let v1135 : BitVec 32 := Scalar.xori v1132 v1134
  let v1136 : BitVec 32 := Scalar.ori v1133 v1135
  let c1_i32_872 : BitVec 32 := 1#32
  let v1137 : BitVec 32 := Scalar.muli v1136 c1_i32_872
  let v1138 : BitVec 32 := Scalar.addi c0_i32_873 v1137
  v1138.toNat
def k0_dev36 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_896 : BitVec 32 := 2#32
  let v1167 : BitVec 32 := Scalar.xori v7 c2_i32_896
  let c4_i32_898 : BitVec 32 := 4#32
  let v1169 : BitVec 32 := Scalar.andi v1167 c4_i32_898
  let c3_i32_897 : BitVec 32 := 3#32
  let v1168 : BitVec 32 := Scalar.andi v1167 c3_i32_897
  let c1_i32_899 : BitVec 32 := 1#32
  let v1170 : BitVec 32 := Scalar.shrsi v1168 c1_i32_899
  let v1171 : BitVec 32 := Scalar.xori v1168 v1170
  let v1172 : BitVec 32 := Scalar.ori v1169 v1171
  let c1_i32_903 : BitVec 32 := 1#32
  let v1173 : BitVec 32 := Scalar.muli v1172 c1_i32_903
  let v1174 : BitVec 32 := Scalar.addi c0_i32_904 v1173
  v1174.toNat
def k0_dev37 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_927 : BitVec 32 := 2#32
  let v1203 : BitVec 32 := Scalar.xori v7 c2_i32_927
  let c4_i32_929 : BitVec 32 := 4#32
  let v1205 : BitVec 32 := Scalar.andi v1203 c4_i32_929
  let c3_i32_928 : BitVec 32 := 3#32
  let v1204 : BitVec 32 := Scalar.andi v1203 c3_i32_928
  let c1_i32_930 : BitVec 32 := 1#32
  let v1206 : BitVec 32 := Scalar.shrsi v1204 c1_i32_930
  let v1207 : BitVec 32 := Scalar.xori v1204 v1206
  let v1208 : BitVec 32 := Scalar.ori v1205 v1207
  let c1_i32_934 : BitVec 32 := 1#32
  let v1209 : BitVec 32 := Scalar.muli v1208 c1_i32_934
  let v1210 : BitVec 32 := Scalar.addi c0_i32_935 v1209
  v1210.toNat
def k0_dev38 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_944 : BitVec 32 := 4#32
  let v1225 : BitVec 32 := Scalar.xori v7 c4_i32_944
  let c4_i32_946 : BitVec 32 := 4#32
  let v1227 : BitVec 32 := Scalar.andi v1225 c4_i32_946
  let c3_i32_945 : BitVec 32 := 3#32
  let v1226 : BitVec 32 := Scalar.andi v1225 c3_i32_945
  let c1_i32_947 : BitVec 32 := 1#32
  let v1228 : BitVec 32 := Scalar.shrsi v1226 c1_i32_947
  let v1229 : BitVec 32 := Scalar.xori v1226 v1228
  let v1230 : BitVec 32 := Scalar.ori v1227 v1229
  let c1_i32_951 : BitVec 32 := 1#32
  let v1231 : BitVec 32 := Scalar.muli v1230 c1_i32_951
  let v1232 : BitVec 32 := Scalar.addi c0_i32_952 v1231
  v1232.toNat
def k0_dev39 (d0 : Dev nD) : Nat :=
  let c0_i32_983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_975 : BitVec 32 := 4#32
  let v1261 : BitVec 32 := Scalar.xori v7 c4_i32_975
  let c4_i32_977 : BitVec 32 := 4#32
  let v1263 : BitVec 32 := Scalar.andi v1261 c4_i32_977
  let c3_i32_976 : BitVec 32 := 3#32
  let v1262 : BitVec 32 := Scalar.andi v1261 c3_i32_976
  let c1_i32_978 : BitVec 32 := 1#32
  let v1264 : BitVec 32 := Scalar.shrsi v1262 c1_i32_978
  let v1265 : BitVec 32 := Scalar.xori v1262 v1264
  let v1266 : BitVec 32 := Scalar.ori v1263 v1265
  let c1_i32_982 : BitVec 32 := 1#32
  let v1267 : BitVec 32 := Scalar.muli v1266 c1_i32_982
  let v1268 : BitVec 32 := Scalar.addi c0_i32_983 v1267
  v1268.toNat
def k0_dev40 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1090 : BitVec 32 := 1#32
  let v1459 : BitVec 32 := Scalar.xori v7 c1_i32_1090
  let c4_i32_1092 : BitVec 32 := 4#32
  let v1461 : BitVec 32 := Scalar.andi v1459 c4_i32_1092
  let c3_i32_1091 : BitVec 32 := 3#32
  let v1460 : BitVec 32 := Scalar.andi v1459 c3_i32_1091
  let c1_i32_1093 : BitVec 32 := 1#32
  let v1462 : BitVec 32 := Scalar.shrsi v1460 c1_i32_1093
  let v1463 : BitVec 32 := Scalar.xori v1460 v1462
  let v1464 : BitVec 32 := Scalar.ori v1461 v1463
  let c1_i32_1097 : BitVec 32 := 1#32
  let v1465 : BitVec 32 := Scalar.muli v1464 c1_i32_1097
  let v1466 : BitVec 32 := Scalar.addi c0_i32_1098 v1465
  v1466.toNat
def k0_dev41 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_1121 : BitVec 32 := 2#32
  let v1495 : BitVec 32 := Scalar.xori v7 c2_i32_1121
  let c4_i32_1123 : BitVec 32 := 4#32
  let v1497 : BitVec 32 := Scalar.andi v1495 c4_i32_1123
  let c3_i32_1122 : BitVec 32 := 3#32
  let v1496 : BitVec 32 := Scalar.andi v1495 c3_i32_1122
  let c1_i32_1124 : BitVec 32 := 1#32
  let v1498 : BitVec 32 := Scalar.shrsi v1496 c1_i32_1124
  let v1499 : BitVec 32 := Scalar.xori v1496 v1498
  let v1500 : BitVec 32 := Scalar.ori v1497 v1499
  let c1_i32_1128 : BitVec 32 := 1#32
  let v1501 : BitVec 32 := Scalar.muli v1500 c1_i32_1128
  let v1502 : BitVec 32 := Scalar.addi c0_i32_1129 v1501
  v1502.toNat
def k0_dev42 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_1152 : BitVec 32 := 4#32
  let v1531 : BitVec 32 := Scalar.xori v7 c4_i32_1152
  let c4_i32_1154 : BitVec 32 := 4#32
  let v1533 : BitVec 32 := Scalar.andi v1531 c4_i32_1154
  let c3_i32_1153 : BitVec 32 := 3#32
  let v1532 : BitVec 32 := Scalar.andi v1531 c3_i32_1153
  let c1_i32_1155 : BitVec 32 := 1#32
  let v1534 : BitVec 32 := Scalar.shrsi v1532 c1_i32_1155
  let v1535 : BitVec 32 := Scalar.xori v1532 v1534
  let v1536 : BitVec 32 := Scalar.ori v1533 v1535
  let c1_i32_1159 : BitVec 32 := 1#32
  let v1537 : BitVec 32 := Scalar.muli v1536 c1_i32_1159
  let v1538 : BitVec 32 := Scalar.addi c0_i32_1160 v1537
  v1538.toNat
def k0_dev43 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1183 : BitVec 32 := 1#32
  let v1567 : BitVec 32 := Scalar.xori v7 c1_i32_1183
  let c4_i32_1185 : BitVec 32 := 4#32
  let v1569 : BitVec 32 := Scalar.andi v1567 c4_i32_1185
  let c3_i32_1184 : BitVec 32 := 3#32
  let v1568 : BitVec 32 := Scalar.andi v1567 c3_i32_1184
  let c1_i32_1186 : BitVec 32 := 1#32
  let v1570 : BitVec 32 := Scalar.shrsi v1568 c1_i32_1186
  let v1571 : BitVec 32 := Scalar.xori v1568 v1570
  let v1572 : BitVec 32 := Scalar.ori v1569 v1571
  let c1_i32_1190 : BitVec 32 := 1#32
  let v1573 : BitVec 32 := Scalar.muli v1572 c1_i32_1190
  let v1574 : BitVec 32 := Scalar.addi c0_i32_1191 v1573
  v1574.toNat
def k0_dev44 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_1214 : BitVec 32 := 2#32
  let v1603 : BitVec 32 := Scalar.xori v7 c2_i32_1214
  let c4_i32_1216 : BitVec 32 := 4#32
  let v1605 : BitVec 32 := Scalar.andi v1603 c4_i32_1216
  let c3_i32_1215 : BitVec 32 := 3#32
  let v1604 : BitVec 32 := Scalar.andi v1603 c3_i32_1215
  let c1_i32_1217 : BitVec 32 := 1#32
  let v1606 : BitVec 32 := Scalar.shrsi v1604 c1_i32_1217
  let v1607 : BitVec 32 := Scalar.xori v1604 v1606
  let v1608 : BitVec 32 := Scalar.ori v1605 v1607
  let c1_i32_1221 : BitVec 32 := 1#32
  let v1609 : BitVec 32 := Scalar.muli v1608 c1_i32_1221
  let v1610 : BitVec 32 := Scalar.addi c0_i32_1222 v1609
  v1610.toNat
def k0_dev45 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_1245 : BitVec 32 := 4#32
  let v1639 : BitVec 32 := Scalar.xori v7 c4_i32_1245
  let c4_i32_1247 : BitVec 32 := 4#32
  let v1641 : BitVec 32 := Scalar.andi v1639 c4_i32_1247
  let c3_i32_1246 : BitVec 32 := 3#32
  let v1640 : BitVec 32 := Scalar.andi v1639 c3_i32_1246
  let c1_i32_1248 : BitVec 32 := 1#32
  let v1642 : BitVec 32 := Scalar.shrsi v1640 c1_i32_1248
  let v1643 : BitVec 32 := Scalar.xori v1640 v1642
  let v1644 : BitVec 32 := Scalar.ori v1641 v1643
  let c1_i32_1252 : BitVec 32 := 1#32
  let v1645 : BitVec 32 := Scalar.muli v1644 c1_i32_1252
  let v1646 : BitVec 32 := Scalar.addi c0_i32_1253 v1645
  v1646.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Tables.lean ====
/-
The schedule of the kernel as number tables: the 48 pieces of the gathered matrix, the 42 transfers of one device, and
the place in program order of every event (a piece becomes available, a transfer starts, a transfer's send is waited
for, a block of the result is stored).
-/
module

public import proofs.«01_k».proof.Proof.Gen.KernelIdeal

@[expose] public section

namespace Cert.KernelIdeal.Proof

open Cert.KernelIdeal

open Idealize.ShloMosaic

/-- A piece of a device's gathered matrix: `16 * j + 8 * u + r` for the third `j` of the rows, its half `u`, and the
    relative label `r` of the device the rows come from. -/
abbrev Key : Type := Fin 48
/-- A transfer of one device, numbered as the kernel numbers its send semaphores. -/
abbrev Snd : Type := Fin 42
/-- A block of the result: `8 * j + r`. -/
abbrev Blk : Type := Fin 24

/-- Entry `i` of a number table. -/
def at_ (l : List ℕ) (i : ℕ) : ℕ := l.getD i 0

/-- The piece each transfer reads. -/
def srcT : List ℕ :=
  [0, 16, 32, 8, 24, 40, 1, 1, 18, 18, 36, 36, 9, 9, 26, 26, 44, 44, 3, 3, 5, 22, 22, 19, 37, 37, 38, 11, 11,
  13, 30, 30, 27, 45, 45, 46, 7, 23, 39, 15, 31, 47]
/-- The dimension of the cube each transfer crosses. -/
def dimT : List ℕ :=
  [0, 1, 2, 0, 1, 2, 1, 2, 2, 0, 0, 1, 1, 2, 2, 0, 0, 1, 2, 0, 0, 0, 1, 1, 1, 2, 2, 2, 0, 0, 0, 1, 1, 1, 2, 2,
  0, 1, 2, 0, 1, 2]
/-- Which of a piece's two lendable shares a transfer takes. -/
def slotT : List ℕ :=
  [0, 0, 0, 0, 0, 0, 0, 1, 0, 1, 0, 1, 0, 1, 0, 1, 0, 1, 0, 1, 0, 0, 1, 0, 0, 1, 0, 0, 1, 0, 0, 1, 0, 0, 1, 0,
  0, 0, 0, 0, 0, 0]
/-- When each transfer starts. -/
def sendT : List ℕ :=
  [1, 3, 5, 7, 9, 11, 16, 17, 19, 20, 22, 23, 25, 26, 28, 29, 31, 32, 37, 38, 40, 42, 43, 45, 47, 48, 50, 52,
  53, 55, 57, 58, 60, 62, 63, 65, 73, 75, 77, 79, 81, 83]
/-- When each transfer's send is waited for. -/
def waitT : List ℕ :=
  [114, 115, 116, 117, 118, 119, 120, 121, 122, 123, 124, 125, 126, 127, 128, 129, 130, 131, 132, 133, 134, 135,
  136, 137, 138, 139, 140, 141, 142, 143, 144, 145, 146, 147, 148, 149, 150, 151, 152, 153, 154, 155]
/-- When each piece becomes available: stored (relative label 0) or received. -/
def haveT : List ℕ :=
  [0, 15, 84, 36, 85, 39, 105, 72, 6, 24, 90, 51, 91, 54, 106, 78, 2, 87, 18, 44, 86, 108, 41, 74, 8, 93, 27,
  59, 92, 109, 56, 80, 4, 88, 89, 111, 21, 46, 49, 76, 10, 94, 95, 112, 30, 61, 64, 82]
/-- When each block of the result is stored. -/
def compT : List ℕ :=
  [12, 33, 97, 66, 98, 67, 107, 96, 13, 101, 34, 69, 100, 110, 68, 99, 14, 103, 104, 113, 35, 70, 71, 102]
/-- The transfer that brings each piece of relative label not 0. -/
def fromT : List ℕ :=
  [0, 0, 19, 6, 20, 7, 36, 18, 0, 3, 28, 12, 29, 13, 39, 27, 0, 23, 1, 9, 22, 37, 8, 21, 0, 32, 4, 15, 31, 40,
  14, 30, 0, 25, 26, 38, 2, 10, 11, 24, 0, 34, 35, 41, 5, 16, 17, 33]
/-- When each lendable share of each piece is lent (1000: never). -/
def slotST : List ℕ :=
  [1, 1000, 16, 17, 1000, 1000, 37, 38, 1000, 1000, 40, 1000, 1000, 1000, 73, 1000, 7, 1000, 25, 26, 1000, 1000,
  52, 53, 1000, 1000, 55, 1000, 1000, 1000, 79, 1000, 3, 1000, 1000, 1000, 19, 20, 45, 1000, 1000, 1000, 1000,
  1000, 42, 43, 75, 1000, 9, 1000, 1000, 1000, 28, 29, 60, 1000, 1000, 1000, 1000, 1000, 57, 58, 81, 1000, 5,
  1000, 1000, 1000, 1000, 1000, 1000, 1000, 22, 23, 47, 48, 50, 1000, 77, 1000, 11, 1000, 1000, 1000, 1000,
  1000, 1000, 1000, 31, 32, 62, 63, 65, 1000, 83, 1000]
/-- When it comes back (0: never lent). -/
def slotWT : List ℕ :=
  [114, 0, 120, 121, 0, 0, 132, 133, 0, 0, 134, 0, 0, 0, 150, 0, 117, 0, 126, 127, 0, 0, 141, 142, 0, 0, 143, 0,
  0, 0, 153, 0, 115, 0, 0, 0, 122, 123, 137, 0, 0, 0, 0, 0, 135, 136, 151, 0, 118, 0, 0, 0, 128, 129, 146, 0, 0,
  0, 0, 0, 144, 145, 154, 0, 116, 0, 0, 0, 0, 0, 0, 0, 124, 125, 138, 139, 140, 0, 152, 0, 119, 0, 0, 0, 0, 0,
  0, 0, 130, 131, 147, 148, 149, 0, 155, 0]
/-- The level of each piece's receive semaphore. -/
def levT : List ℕ :=
  [0, 2, 4, 3, 4, 3, 5, 4, 0, 2, 4, 3, 4, 3, 5, 4, 0, 4, 2, 3, 4, 5, 3, 4, 0, 4, 2, 3, 4, 5, 3, 4, 0, 4, 4, 5,
  2, 3, 3, 4, 0, 4, 4, 5, 2, 3, 3, 4]

/-- The piece a transfer reads; -/
def sSrc (s : Snd) : Key := ⟨at_ srcT s % 48, Nat.mod_lt _ (by decide)⟩
/-- the dimension it crosses; -/
def sDim (s : Snd) : Fin 3 := ⟨at_ dimT s % 3, Nat.mod_lt _ (by decide)⟩
/-- the share it takes. -/
def sSlot (s : Snd) : Fin 2 := ⟨at_ slotT s % 2, Nat.mod_lt _ (by decide)⟩
/-- The transfer that brings a piece. -/
def kFrom (k : Key) : Snd := ⟨at_ fromT k % 42, Nat.mod_lt _ (by decide)⟩

/-- A piece's third, half and relative label. -/
def kJ (k : Key) : Fin 3 := ⟨k.val / 16, by omega⟩
def kU (k : Key) : Fin 2 := ⟨k.val / 8 % 2, Nat.mod_lt _ (by decide)⟩
def kR (k : Key) : Fin 8 := ⟨k.val % 8, Nat.mod_lt _ (by decide)⟩
/-- The piece of a third, half and relative label. -/
def key (j : Fin 3) (u : Fin 2) (r : Fin 8) : Key := ⟨16 * j.val + 8 * u.val + r.val, by omega⟩
/-- The half `u` of the rows a block of the result is computed from. -/
def bKey (p : Blk) (u : Fin 2) : Key := ⟨16 * (p.val / 8) + 8 * u.val + p.val % 8, by omega⟩
def bJ (p : Blk) : Fin 3 := ⟨p.val / 8, by omega⟩
def bR (p : Blk) : Fin 8 := ⟨p.val % 8, Nat.mod_lt _ (by decide)⟩

/-- Exclusive or of two labels. -/
def xr (a b : Fin 8) : Fin 8 := ⟨(a.val ^^^ b.val) % 8, Nat.mod_lt _ (by decide)⟩
/-- The cube's label of a device, and the device of a label: the Gray code on the two low bits. -/
def lab (p : Fin 8) : Fin 8 := ⟨at_ [0, 1, 3, 2, 4, 5, 7, 6] p % 8, Nat.mod_lt _ (by decide)⟩
/-- The bit of a dimension. -/
def bit (d : Fin 3) : Fin 8 := ⟨2 ^ d.val % 8, Nat.mod_lt _ (by decide)⟩
/-- The device at relative label `r` from `c`. -/
def dev (c : Fin 8) (r : Fin 8) : Fin 8 := lab (xr (lab c) r)
/-- The neighbour of `c` across dimension `d`. -/
def nbr (c : Fin 8) (d : Fin 3) : Fin 8 := dev c (bit d)

/-- The piece, on the receiver, that a transfer brings. -/
def sDst (s : Snd) : Key := key (kJ (sSrc s)) (kU (sSrc s)) (xr (kR (sSrc s)) (bit (sDim s)))

/-- The first row of a piece within a device's rows, and its number of rows. -/
def kLo (k : Key) : ℕ := at_ [0, 80, 176, 256, 352, 432] (k.val / 8)
def kSz (k : Key) : ℕ := at_ [80, 96, 80, 96, 80, 80] (k.val / 8)
/-- The first row of a third, and its number of rows. -/
def jLo (j : Fin 3) : ℕ := 176 * j.val
def jSz (j : Fin 3) : ℕ := at_ [176, 176, 160] j

abbrev tHave (k : Key) : ℕ := at_ haveT k
abbrev tSend (s : Snd) : ℕ := at_ sendT s
abbrev tWait (s : Snd) : ℕ := at_ waitT s
abbrev tComp (p : Blk) : ℕ := at_ compT p
/-- When share `i` of piece `k` is lent, and when it is back. -/
abbrev tLend (k : Key) (i : Fin 2) : ℕ := at_ slotST (2 * k.val + i.val)
abbrev tBack (k : Key) (i : Fin 2) : ℕ := at_ slotWT (2 * k.val + i.val)
/-- The level of a piece's receive semaphore. -/
abbrev kLev (k : Key) : ℕ := at_ levT k

/-! ## Facts of the tables -/

theorem nbr_nbr (c : Fin 8) (d : Fin 3) : nbr (nbr c d) d = c := by revert c d; decide +kernel
theorem nbr_inj (d : Fin 3) {a b : Fin 8} (h : nbr a d = nbr b d) : a = b := by rw [← nbr_nbr a d, h, nbr_nbr]
/-- The rows a transfer moves are the same rows of the gathered matrix on both devices. -/
theorem dev_sDst (c : Fin 8) (s : Snd) : dev (nbr c (sDim s)) (kR (sDst s)) = dev c (kR (sSrc s)) := by revert c s; decide +kernel
theorem div_sDst (s : Snd) : (sDst s).val / 8 = (sSrc s).val / 8 := by revert s; decide +kernel
theorem dev_zero (c : Fin 8) : dev c 0 = c := by revert c; decide +kernel
theorem dev_inj (c : Fin 8) {r r' : Fin 8} (h : dev c r = dev c r') : r = r' := by revert c r r'; decide +kernel
theorem dev_dev (c s : Fin 8) : dev c (xr (lab c) (lab s)) = s := by revert c s; decide +kernel
theorem kFrom_sDst (s : Snd) : kFrom (sDst s) = s := by revert s; decide +kernel
theorem sDst_inj {s s' : Snd} (h : sDst s = sDst s') : s = s' := by rw [← kFrom_sDst s, h, kFrom_sDst]
theorem sDst_kFrom (k : Key) (h : kR k ≠ 0) : sDst (kFrom k) = k := by revert k; decide +kernel
theorem kR_sDst (s : Snd) : kR (sDst s) ≠ 0 := by revert s; decide +kernel

theorem tLend_of (s : Snd) : tLend (sSrc s) (sSlot s) = tSend s := by revert s; decide +kernel
theorem tBack_of (s : Snd) : tBack (sSrc s) (sSlot s) = tWait s := by revert s; decide +kernel
theorem tSend_inj {s s' : Snd} (h : tSend s = tSend s') : s = s' := by revert s s'; decide +kernel
theorem tWait_inj {s s' : Snd} (h : tWait s = tWait s') : s = s' := by revert s s'; decide +kernel
theorem tHave_inj {k k' : Key} (h : tHave k = tHave k') : k = k' := by revert k k'; decide +kernel
theorem tComp_inj {p p' : Blk} (h : tComp p = tComp p') : p = p' := by revert p p'; decide +kernel
theorem tHave_ne_tSend (k : Key) (s : Snd) : tHave k ≠ tSend s := by revert k s; decide +kernel
theorem tHave_ne_tWait (k : Key) (s : Snd) : tHave k ≠ tWait s := by revert k s; decide +kernel
theorem tHave_ne_tComp (k : Key) (p : Blk) : tHave k ≠ tComp p := by revert k p; decide +kernel
theorem tSend_ne_tWait (s s' : Snd) : tSend s ≠ tWait s' := by revert s s'; decide +kernel
theorem tSend_ne_tComp (s : Snd) (p : Blk) : tSend s ≠ tComp p := by revert s p; decide +kernel
theorem tWait_ne_tComp (s : Snd) (p : Blk) : tWait s ≠ tComp p := by revert s p; decide +kernel
/-- A share that is lent is lent by a transfer. -/
theorem tLend_cases (k : Key) (i : Fin 2) : tLend k i = 1000 ∧ tBack k i = 0 ∨ ∃ s, sSrc s = k ∧ sSlot s = i := by
  revert k i; decide +kernel
theorem tLend_lt (k : Key) (i : Fin 2) : tHave k < tLend k i := by revert k i; decide +kernel
theorem tSend_lt_tWait (s : Snd) : tSend s < tWait s := by revert s; decide +kernel
theorem tHave_lt_156 (k : Key) : tHave k < 156 := by revert k; decide +kernel
theorem tSend_lt_156 (s : Snd) : tSend s < 156 := by revert s; decide +kernel
theorem tWait_lt_156 (s : Snd) : tWait s < 156 := by revert s; decide +kernel
theorem tBack_lt_156 (k : Key) (i : Fin 2) : tBack k i < 156 := by revert k i; decide +kernel
theorem tComp_lt_156 (p : Blk) : tComp p < 156 := by revert p; decide +kernel
/-- While a piece is waited for, every transfer still to start brings a piece of a higher level. -/
theorem lev_lt (k : Key) (s : Snd) (h : tHave k < tSend s) : kLev k < kLev (sDst s) := by revert k s; decide +kernel
theorem lev_dst (s : Snd) : 2 ≤ kLev (sDst s) := by revert s; decide +kernel

end Cert.KernelIdeal.Proof

end
-- ==== Proof.Proto.lean ====
/-
The protocol of the gather: which semaphore is which cell, the elements of the gathered matrix a piece covers, what each
transfer hands over, in what order the semaphores may be waited for.
-/
module

public import proofs.«01_k».proof.Proof.Tables
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.KernelIdeal.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-! ## The resources: the pipeline's copy of the rounds (duties `Unit`) and the gather's (duties: a dimension) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The runtime's barrier semaphore. -/
abbrev barS : Sem sig := (SemArray.scalar (sig.barrier 0 rfl) : Sems sig S_).sem
/-- The send semaphore of a transfer, the receive semaphore of a piece. -/
def sendS (s : Snd) : DmaSem sig := ⟨3 + s.val, by have := s.isLt; show 3 + s.val < 93; omega⟩
def recvS (k : Key) : DmaSem sig := ⟨45 + 16 * (k.val / 16) + 2 * (k.val % 8) + k.val / 8 % 2, by have := k.isLt; show _ < 93; omega⟩

/-- The kernel's own semaphores; all of the protocol's. -/
abbrev Own : Type := Snd ⊕ Key
abbrev Cell : Type := Own ⊕ Unit
def osem : Own → SemLoc sig := fun | .inl s => .dma (sendS s) | .inr k => .dma (recvS k)
def csem : Cell → SemLoc sig := fun | .inl o => osem o | .inr () => .reg barS

/-- The cell a semaphore is, if it is one of the protocol's. -/
def kindOf : SemLoc sig → Option Cell
  | .reg s => if s = barS then some (.inr ()) else none
  | .dma q => if q.val < 3 then none
      else if q.val < 45 then some (.inl (.inl ⟨(q.val - 3) % 42, Nat.mod_lt _ (by decide)⟩))
      else some (.inl (.inr ⟨(16 * ((q.val - 45) / 16) + 8 * ((q.val - 45) % 2) + (q.val - 45) % 16 / 2) % 48, Nat.mod_lt _ (by decide)⟩))

theorem kindOf_csem (x : Cell) : kindOf (csem x) = some x := by revert x; decide +kernel
theorem csem_inj {x y : Cell} (h : csem x = csem y) : x = y := by
  have := congrArg kindOf h; rw [kindOf_csem, kindOf_csem] at this; exact Option.some.inj this

abbrev kcell (cx : Dev nD × Cell) : GSem nD τ sig := ((cx.1 : Thread nD τ), csem cx.2)
abbrev barCell (c : Dev nD) : GSem nD τ sig := ((c : Thread nD τ), .reg barS)
abbrev sendCell (c : Dev nD) (s : Snd) : GSem nD τ sig := ((c : Thread nD τ), .dma (sendS s))
abbrev recvCell (c : Dev nD) (k : Key) : GSem nD τ sig := ((c : Thread nD τ), .dma (recvS k))

theorem kcell_injective : Function.Injective (kcell : Dev nD × Cell → GSem nD τ sig) := by
  rintro ⟨c, x⟩ ⟨c', x'⟩ h
  have h1 : c = c' := congrArg (fun g : GSem nD τ sig => g.1.1) h
  have h2 : x = x' := csem_inj (congrArg Prod.snd h)
  rw [h1, h2]

/-! ## The pieces -/

abbrev gM : Memref sig .tc .vmem S8x512x4096 .bf16 := Memref.whole cc0_scratch0
abbrev xM : Memref sig .tc .vmem S512x4096 .bf16 := Memref.whole cc0_stg0_0
abbrev wM : Memref sig .tc .vmem S4096x256 .bf16 := Memref.whole cc0_stg1_0
abbrev oM : Memref sig .tc .vmem S4096x256 .f32 := Memref.whole cc0_stg2_0

/-- The buffer the rows are gathered in, on device `c`. -/
abbrev gL (c : Dev nD) : Loc nD τ sig := (c : Thread nD τ).loc cc0_scratch0

/-- The elements of rows `lo … lo + sz - 1` of slot `d`. -/
def band (d : Fin 8) (lo sz : ℕ) : Finset S8x512x4096.Idx :=
  Finset.univ.filter fun i => (i 0).val = d.val ∧ lo ≤ (i 1).val ∧ (i 1).val < lo + sz

theorem mem_band {d : Fin 8} {lo sz : ℕ} {i : S8x512x4096.Idx} :
    i ∈ band d lo sz ↔ (i 0).val = d.val ∧ lo ≤ (i 1).val ∧ (i 1).val < lo + sz := by simp [band]

/-- The elements of piece `k` on device `c`. -/
def reg (c : Dev nD) (k : Key) : Finset S8x512x4096.Idx := band (dev c (kR k)) (kLo k) (kSz k)

/-- A transfer moves the same elements on both devices. -/
theorem reg_sDst (c : Dev nD) (s : Snd) : reg (nbr c (sDim s)) (sDst s) = reg c (sSrc s) := by
  unfold reg kLo kSz; rw [dev_sDst, div_sDst]

/-- Row `i 1` of device `i 0`: an element's place in the gathered matrix read in `x`. -/
def xIdx (i : S8x512x4096.Idx) : S512x4096.Idx := fun | ⟨0, _⟩ => i 1 | ⟨1, _⟩ => i 2

/-- A device's rows, and its columns of the second matrix. -/
abbrev xAt (c : Dev nD) : (cc0_stg0_0 : Ref sig .tc).ty.Contents (Elt F) := m ((c : Thread nD τ).loc main_arg0)
abbrev wAt (c : Dev nD) : (cc0_stg1_0 : Ref sig .tc).ty.Contents (Elt F) := m ((c : Thread nD τ).loc main_arg1)

/-- The gathered matrix: slot `d` holds device `d`'s rows, on every device. -/
def gAt (c : Dev nD) : Buf (Elt F) (gL c) := fun i : S8x512x4096.Idx => xAt m (i 0) (xIdx i)

/-- Piece `k` of device `c`'s buffer, at share `q` and contents `f`; at share `q` and holding the gathered matrix;
    held in full at some contents. -/
def pieceAt (c : Dev nD) (k : Key) (q : PosShare TreeShare) (f : Buf (Elt F) (gL c)) : sProp 𝕄 := gL c ↦[reg c k]{q} f
def piece (c : Dev nD) (k : Key) (q : PosShare TreeShare) : sProp 𝕄 := pieceAt c k q (gAt m c)
def room (c : Dev nD) (k : Key) : sProp 𝕄 := iprop(∃ f, pieceAt c k fullShare f)

/-- The share of a piece the loads use, and the two that transfers borrow. -/
abbrev shL : PosShare TreeShare := shares3 fullShare 0
abbrev shT (i : Fin 2) : PosShare TreeShare := if i.val = 0 then shares3 fullShare 1 else shares3 fullShare 2

instance pieceAt_storable (c : Dev nD) (k q f) : BI.Storable (upEmb : UEmb _ 𝕄) (pieceAt (F := F) c k q f) := by unfold pieceAt; infer_instance
instance piece_storable (c : Dev nD) (k q) : BI.Storable (upEmb : UEmb _ 𝕄) (piece (F := F) m c k q) := by unfold piece; infer_instance
instance room_storable (c : Dev nD) (k) : BI.Storable (upEmb : UEmb _ 𝕄) (room (F := F) c k) := by unfold room; infer_instance

theorem piece_thirds (c : Dev nD) (k : Key) :
    piece m c k fullShare ⊣⊢ iprop(piece m c k shL ∗ piece m c k (shT 0) ∗ piece m c k (shT 1)) := pointsTo_thirds _ _

/-! ## Credits -/

/-- What a transfer of 80 rows credits a semaphore; of 96. -/
def N80 : ℕ := ((gM.slice (Rect.unit (s := S8x512x4096) (k0_off2 0 0#32) S1x80x4096.size (k0_off2_inb 0 0)) (fun _ => rfl)).squeeze S80x4096 squeezes_S1x80x4096_S80x4096).view.dmaCredit
def N96 : ℕ := ((gM.slice (Rect.unit (s := S8x512x4096) (k0_off8 0 0#32) S1x96x4096.size (k0_off8_inb 0 0)) (fun _ => rfl)).squeeze S96x4096 squeezes_S1x96x4096_S96x4096).view.dmaCredit
/-- What a transfer of piece `k` credits. -/
def amt (k : Key) : ℕ := if kSz k = 80 then N80 else N96
theorem amt_pos (k : Key) : 0 < amt k := by
  unfold amt; split
  · exact View.dmaCredit_pos _ (by decide)
  · exact View.dmaCredit_pos _ (by decide)
theorem amt_sDst (s : Snd) : amt (sDst s) = amt (sSrc s) := by unfold amt kSz; rw [div_sDst]

/-! ## The schedule -/

/-- What device `c` lends its neighbour across dimension `d` at the entry barrier: the pieces that neighbour's transfers write. -/
def lent (c : Dev nD) (d : Fin 3) : sProp 𝕄 := bigSep Finset.univ fun s : Snd => if sDim s = d then room c (sDst s) else iprop(emp)

def dutiesOf : Cell → Finset (Fin 3)
  | .inl (.inl _) => {0}
  | .inl (.inr k) => if kR k = 0 then ∅ else {0}
  | .inr () => Finset.univ
def amountOf : Cell → ℕ
  | .inl (.inl s) => amt (sSrc s)
  | .inl (.inr k) => amt k
  | .inr () => 1
def payOf (c : Dev nD) (d : Fin 3) : Cell → sProp 𝕄
  | .inl (.inl s) => piece m c (sSrc s) (shT (sSlot s))
  | .inl (.inr k) => piece m c k fullShare
  | .inr () => lent (nbr c d) d

/-- One round: a barrier cell has a duty of one unit for each dimension, a send cell and the receive cell of a piece
    that is received one duty of the piece's credit. -/
def sched : Rounds.Schedule (GSem nD τ sig) (Fin 3) 𝕄 where
  duties g r := if r = 0 ∧ g.1.2 = .tc then (kindOf g.2).elim ∅ dutiesOf else ∅
  unitless _ := False
  amount g _ _ := (kindOf g.2).elim 1 amountOf
  payload g _ d := (kindOf g.2).elim iprop(emp) (payOf m g.1.1 d)
  amount_pos g _ _ _ := by
    rcases kindOf g.2 with _ | ((s | k) | _)
    · exact Nat.one_pos
    · exact amt_pos _
    · exact amt_pos _
    · exact Nat.one_pos

instance lent_storable (c : Dev nD) (d : Fin 3) : BI.Storable (upEmb : UEmb _ 𝕄) (lent (F := F) c d) := by
  unfold lent
  haveI : ∀ s : Snd, BI.Storable (upEmb : UEmb _ 𝕄) (if sDim s = d then room (F := F) c (sDst s) else iprop(emp)) := fun s => by split <;> infer_instance
  infer_instance
instance sched_storable (g : GSem nD τ sig) (r : ℕ) (d : Fin 3) : BI.Storable (upEmb : UEmb _ 𝕄) ((sched (F := F) m).payload g r d) := by
  show BI.Storable upEmb ((kindOf g.2).elim iprop(emp) (payOf m g.1.1 d))
  rcases kindOf g.2 with _ | ((s | k) | _)
  · show BI.Storable upEmb iprop(emp); infer_instance
  · show BI.Storable upEmb (piece m _ _ _); infer_instance
  · show BI.Storable upEmb (piece m _ _ _); infer_instance
  · show BI.Storable upEmb (lent _ _); infer_instance

section Sched
variable (c : Dev nD) (x : Cell)

theorem duties_cell : (sched (F := F) m).duties (kcell (c, x)) 0 = dutiesOf x := by
  dsimp only [sched]
  rw [if_pos ⟨rfl, rfl⟩, kindOf_csem]; rfl
theorem duties_later (g : GSem nD τ sig) : ∀ r, 1 ≤ r → (sched (F := F) m).duties g r = ∅ :=
  fun r hr => if_neg fun h => by omega
theorem duties_none (k : Key) (h : kR k = 0) : ∀ r, 0 ≤ r → (sched (F := F) m).duties (recvCell c k) r = ∅ := fun r _ => by
  rcases Nat.eq_zero_or_pos r with rfl | hr
  · exact (duties_cell m c (.inl (.inr k))).trans (if_pos h)
  · exact duties_later m _ r hr
theorem amount_cell (d : Fin 3) : (sched (F := F) m).amount (kcell (c, x)) 0 d = amountOf x := by
  show (kindOf (csem x)).elim 1 amountOf = _; rw [kindOf_csem]; rfl
theorem payload_cell (d : Fin 3) : (sched (F := F) m).payload (kcell (c, x)) 0 d = payOf m c d x := by
  show (kindOf (csem x)).elim iprop(emp) (payOf m c d) = _; rw [kindOf_csem]; rfl

theorem expect_bar : (sched (F := F) m).expect (barCell c) 0 = 3 := by
  unfold Schedule.expect Schedule.amountOf
  rw [show barCell c = kcell (c, .inr ()) from rfl, duties_cell, Finset.sum_congr rfl fun d _ => amount_cell m c (.inr ()) d]; rfl
theorem expect_send (s : Snd) : (sched (F := F) m).expect (sendCell c s) 0 = amt (sSrc s) := by
  unfold Schedule.expect Schedule.amountOf
  rw [show sendCell c s = kcell (c, .inl (.inl s)) from rfl, duties_cell, Finset.sum_congr rfl fun d _ => amount_cell m c (.inl (.inl s)) d]
  exact Finset.sum_singleton _ _
theorem duties_recv (k : Key) (h : kR k ≠ 0) : (sched (F := F) m).duties (recvCell c k) 0 = {0} :=
  (duties_cell m c (.inl (.inr k))).trans (if_neg h)
theorem duties_send (s : Snd) : (sched (F := F) m).duties (sendCell c s) 0 = {0} := duties_cell m c (.inl (.inl s))
theorem duties_bar : (sched (F := F) m).duties (barCell c) 0 = Finset.univ := duties_cell m c (.inr ())
theorem expect_recv (k : Key) (h : kR k ≠ 0) : (sched (F := F) m).expect (recvCell c k) 0 = amt k := by
  unfold Schedule.expect Schedule.amountOf
  rw [duties_recv m c k h, Finset.sum_singleton]; exact amount_cell m c (.inl (.inr k)) 0
theorem rest_bar : bigSep ((sched (F := F) m).duties (barCell c) 0 \ ∅) (fun d => (sched (F := F) m).payload (barCell c) 0 d)
    = bigSep Finset.univ fun d => lent (nbr c d) d := by
  rw [Finset.sdiff_empty, duties_bar]; exact bigSep_congr fun d _ => payload_cell m c (.inr ()) d
theorem rest_send (s : Snd) : bigSep ((sched (F := F) m).duties (sendCell c s) 0 \ ∅) (fun d => (sched (F := F) m).payload (sendCell c s) 0 d)
    = piece m c (sSrc s) (shT (sSlot s)) := by
  rw [Finset.sdiff_empty, duties_send, bigSep_singleton]; exact payload_cell m c (.inl (.inl s)) 0
theorem rest_recv (k : Key) (h : kR k ≠ 0) : bigSep ((sched (F := F) m).duties (recvCell c k) 0 \ ∅) (fun d => (sched (F := F) m).payload (recvCell c k) 0 d)
    = piece m c k fullShare := by
  rw [Finset.sdiff_empty, duties_recv m c k h, bigSep_singleton]; exact payload_cell m c (.inl (.inr k)) 0
end Sched

/-! ## What a device owes, and the levels -/

/-- What device `c` still owes once `n` of its events are done: the credit of every transfer not yet started. -/
def owed (c : Dev nD) (n : ℕ) : CellTallies nD τ sig Unit :=
  ∑ s : Snd, if n ≤ tSend s then tallyAt (recvCell (nbr c (sDim s)) (sDst s)) () (amt (sSrc s)) else 0
/-- At launch it owes its three neighbours' barriers a unit each as well. -/
def owed₂ (c : Dev nD) : CellTallies nD τ sig Unit := owed c 0 + tallyAt (barCell (nbr c 2)) () 1
def owed₁ (c : Dev nD) : CellTallies nD τ sig Unit := owed₂ c + tallyAt (barCell (nbr c 1)) () 1
def owed₀ (c : Dev nD) : CellTallies nD τ sig Unit := owed₁ c + tallyAt (barCell (nbr c 0)) () 1

def L (g : GSem nD τ sig) : Finset Unit := if g.1.2 = .tc then {()} else ∅
/-- Staging and send cells 0, the barrier 1, a piece's receive cell the piece's level. -/
def lv (g : GSem nD τ sig) (_ : Unit) : ℕ := match kindOf g.2 with
  | some (.inl (.inr k)) => kLev k
  | some (.inr ()) => 1
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) (u : Unit) : lv (kcell (c, x)) u = match some x with
  | some (.inl (.inr k)) => kLev k
  | some (.inr ()) => 1
  | _ => 0 := by unfold lv; rw [show (kcell (c, x)).2 = csem x from rfl, kindOf_csem]
theorem lv_recv (c : Dev nD) (k : Key) (u : Unit) : lv (recvCell c k) u = kLev k := lv_cell c (.inl (.inr k)) u
theorem lv_bar (c : Dev nD) (u : Unit) : lv (barCell c) u = 1 := lv_cell c (.inr ()) u
theorem lv_send (c : Dev nD) (s : Snd) (u : Unit) : lv (sendCell c s) u = 0 := lv_cell c (.inl (.inl s)) u

theorem owed_apply (c : Dev nD) (n : ℕ) (g : GSem nD τ sig) (u : Unit) :
    owed c n g u = ∑ s : Snd, if n ≤ tSend s ∧ g = recvCell (nbr c (sDim s)) (sDst s) then amt (sSrc s) else 0 := by
  unfold owed
  rw [Finset.sum_apply, Finsupp.finset_sum_apply]
  refine Finset.sum_congr rfl fun s _ => ?_
  by_cases h : n ≤ tSend s
  · rw [if_pos h, tallyAt_apply]; simp [h]
  · rw [if_neg h, if_neg (fun h' => h h'.1)]; rfl

theorem owed_pos {c : Dev nD} {n : ℕ} {g : GSem nD τ sig} {u : Unit} (h : 0 < owed c n g u) :
    ∃ s : Snd, n ≤ tSend s ∧ g = recvCell (nbr c (sDim s)) (sDst s) := by
  rw [owed_apply] at h
  obtain ⟨s, -, hs⟩ := Finset.exists_ne_zero_of_sum_ne_zero (Nat.pos_iff_ne_zero.mp h)
  exact ⟨s, by_contra fun hn => hs (if_neg hn)⟩

/-- Starting a transfer pays what is owed for it. -/
theorem owed_send (c : Dev nD) (s : Snd) :
    owed c (tSend s) = owed c (tSend s + 1) + tallyAt (recvCell (nbr c (sDim s)) (sDst s)) () (amt (sSrc s)) := by
  unfold owed
  rw [← Finset.add_sum_erase Finset.univ _ (Finset.mem_univ s), ← Finset.add_sum_erase (a := s) (s := Finset.univ)
    (f := fun s' => if tSend s + 1 ≤ tSend s' then tallyAt (recvCell (nbr c (sDim s')) (sDst s')) () (amt (sSrc s')) else 0) (h := Finset.mem_univ s),
    if_pos le_rfl, if_neg (by omega), zero_add, add_comm]
  refine congrArg (· + _) (Finset.sum_congr rfl fun s' hs' => ?_)
  have hne : tSend s' ≠ tSend s := fun h => (Finset.mem_erase.mp hs').1 (tSend_inj h)
  by_cases h : tSend s ≤ tSend s'
  · rw [if_pos h, if_pos (by omega)]
  · rw [if_neg h, if_neg (by omega)]

/-- An event that starts no transfer changes nothing owed. -/
theorem owed_idle (c : Dev nD) (n : ℕ) (h : ∀ s, tSend s ≠ n) : owed c (n + 1) = owed c n :=
  Finset.sum_congr rfl fun s _ => by
    have := h s
    by_cases h' : n ≤ tSend s
    · rw [if_pos h', if_pos (by omega)]
    · rw [if_neg h', if_neg (by omega)]

/-- In the end nothing is owed. -/
theorem owed_end (c : Dev nD) : owed c 156 = 0 :=
  Finset.sum_eq_zero fun s _ => if_neg (by have := tSend_lt_156 s; omega)

/-- A wait on a cell whose level is below that of every piece still to send is allowed. -/
theorem mayWait_of (c : Dev nD) (n : ℕ) (sm : SemLoc sig) (h : ∀ s, n ≤ tSend s → lv ((c : Thread nD τ), sm) () < kLev (sDst s)) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨s, -, rfl⟩ := owed_pos hg; exact Finset.mem_singleton_self _)
    (fun p hp => by rw [Finset.mem_singleton.mp hp])
    (fun g u hg => by obtain ⟨s, hs, rfl⟩ := owed_pos hg; rw [lv_recv]; exact h s hs)

/-- A piece may be waited for when its turn comes. -/
theorem mayWait_recv (c : Dev nD) (k : Key) :
    (levAts L lv : sProp 𝕄) ⊢ MayWait (c : Thread nD τ) (.dma (recvS k)) () (owed c (tHave k)) :=
  mayWait_of c _ _ fun s hs => by
    rw [show lv ((c : Thread nD τ), SemLoc.dma (recvS k)) () = kLev k from lv_recv c k ()]
    exact lev_lt k s (lt_of_le_of_ne hs (tHave_ne_tSend k s))
/-- A send may be waited for any time; -/
theorem mayWait_send (c : Dev nD) (s : Snd) (n : ℕ) :
    (levAts L lv : sProp 𝕄) ⊢ MayWait (c : Thread nD τ) (.dma (sendS s)) () (owed c n) :=
  mayWait_of c _ _ fun s' _ => by
    rw [show lv ((c : Thread nD τ), SemLoc.dma (sendS s)) () = 0 from lv_send c s ()]
    have := lev_dst s'; omega
/-- the barrier, once its own signals are out. -/
theorem mayWait_bar (c : Dev nD) : (levAts L lv : sProp 𝕄) ⊢ MayWait (c : Thread nD τ) (.reg barS) () (owed c 0) :=
  mayWait_of c _ _ fun s' _ => by
    rw [show lv ((c : Thread nD τ), SemLoc.reg barS) () = 1 from lv_bar c ()]
    have := lev_dst s'; omega

end Cert.KernelIdeal.Proof

end
-- ==== Proof.State.lean ====
/-
What a device holds once `n` of its 156 events are done, and how one event changes it.
-/
module

public import proofs.«01_k».proof.Proof.Proto

@[expose] public section

noncomputable section

namespace Cert.KernelIdeal.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ)

/-! ## The pieces over time -/

/-- Share `i` of piece `k`, unless a transfer has it. -/
def share (c : Dev nD) (k : Key) (i : Fin 2) (n : ℕ) : sProp 𝕄 :=
  if tLend k i < n ∧ n ≤ tBack k i then iprop(emp) else piece m c k (shT i)

/-- A piece not yet there: its receive cell at round 0, with the room to store it (the device's own rows) or the credit
    to wait for it with (the others'). -/
def pend (c : Dev nD) (k : Key) : sProp 𝕄 :=
  iprop(atPos ER (recvCell c k) 0 ∅ 0 ∗ if kR k = 0 then room c k else cred (tallyAt (recvCell c k) () (amt k)))
/-- A piece that is there: its cell closed, the loads' share, the shares not lent. -/
def held (c : Dev nD) (k : Key) (n : ℕ) : sProp 𝕄 :=
  iprop(semVal (recvCell c k) 0 ∗ piece m c k shL ∗ share m c k 0 n ∗ share m c k 1 n)
def keyAt (c : Dev nD) (n : ℕ) (k : Key) : sProp 𝕄 := if n ≤ tHave k then pend c k else held m c k n
def keys (c : Dev nD) (n : ℕ) : sProp 𝕄 := bigSep Finset.univ (keyAt m c n)

theorem share_idle (c : Dev nD) (k : Key) (i : Fin 2) {n : ℕ} (hn : n < 156)
    (h : ∀ s, sSrc s = k → sSlot s = i → tSend s ≠ n ∧ tWait s ≠ n) : share m c k i (n + 1) = share m c k i n := by
  unfold share
  rcases tLend_cases k i with ⟨h1, h2⟩ | ⟨s, rfl, rfl⟩
  · rw [if_neg (fun h' => by omega), if_neg (fun h' => by omega)]
  · have := h s rfl rfl
    have e1 := tLend_of s; have e2 := tBack_of s
    by_cases h' : tLend (sSrc s) (sSlot s) < n ∧ n ≤ tBack (sSrc s) (sSlot s)
    · rw [if_pos h', if_pos ⟨by omega, by omega⟩]
    · rw [if_neg h', if_neg (fun h'' => h' ⟨by omega, by omega⟩)]

theorem keyAt_idle (c : Dev nD) (k : Key) {n : ℕ} (hn : n < 156) (hk : tHave k ≠ n)
    (h : ∀ s, sSrc s = k → tSend s ≠ n ∧ tWait s ≠ n) : keyAt m c (n + 1) k = keyAt m c n k := by
  unfold keyAt held
  rw [share_idle m c k 0 hn fun s hs _ => h s hs, share_idle m c k 1 hn fun s hs _ => h s hs]
  by_cases h' : n ≤ tHave k
  · rw [if_pos h', if_pos (by omega)]
  · rw [if_neg h', if_neg (by omega)]

/-- Once a piece is there it is held whole: nothing of it is lent yet. -/
theorem held_first (c : Dev nD) (k : Key) : held m c k (tHave k + 1)
    = iprop(semVal (recvCell c k) 0 ∗ piece m c k shL ∗ piece m c k (shT 0) ∗ piece m c k (shT 1)) := by
  unfold held share
  rw [if_neg (fun h => by have := tLend_lt k 0; omega), if_neg (fun h => by have := tLend_lt k 1; omega)]

/-- The event by which piece `k` becomes available. -/
theorem keys_have (c : Dev nD) (k : Key) :
    keys m c (tHave k) ⊢ iprop(pend c k ∗ ((semVal (recvCell c k) 0 ∗ piece m c k fullShare) -∗ keys m c (tHave k + 1))) := by
  unfold keys
  rw [bigSep_univ_at (keyAt m c (tHave k)) k, bigSep_univ_at (keyAt m c (tHave k + 1)) k,
    show keyAt m c (tHave k) k = pend c k from if_pos le_rfl,
    show keyAt m c (tHave k + 1) k = held m c k (tHave k + 1) from if_neg (by omega), held_first,
    bigSep_congr (s := Finset.univ.erase k) (Φ := keyAt m c (tHave k + 1)) (Ψ := keyAt m c (tHave k)) fun k' hk' =>
      keyAt_idle m c k' (tHave_lt_156 k) (fun h => (Finset.mem_erase.mp hk').1 (tHave_inj h))
        fun s _ => ⟨(tHave_ne_tSend k s).symm, (tHave_ne_tWait k s).symm⟩]
  iintro ⟨Hp, Hr⟩
  isplitl [Hp]; · iexact Hp
  iintro ⟨Hz, Hf⟩
  ihave H := (piece_thirds m c k).1 $$ Hf
  icases H with ⟨H0, H1, H2⟩
  isplitr [Hr]
  · isplitl [Hz]; · iexact Hz
    isplitl [H0]; · iexact H0
    isplitl [H1]; · iexact H1
    iexact H2
  iexact Hr

/-- An event of the result changes no piece. -/
theorem keys_comp (c : Dev nD) (p : Blk) : keys m c (tComp p) = keys m c (tComp p + 1) :=
  bigSep_congr fun k _ => (keyAt_idle m c k (tComp_lt_156 p) (tHave_ne_tComp k p)
    fun s _ => ⟨tSend_ne_tComp s p, tWait_ne_tComp s p⟩).symm

/-- The pieces other than a transfer's source do not change when the transfer starts or its send is waited for. -/
theorem rest_send_wait (c : Dev nD) (s : Snd) {n : ℕ} (hn : n = tSend s ∨ n = tWait s) :
    bigSep (Finset.univ.erase (sSrc s)) (keyAt m c (n + 1)) = bigSep (Finset.univ.erase (sSrc s)) (keyAt m c n) :=
  bigSep_congr fun k hk => keyAt_idle m c k (by have := tSend_lt_156 s; have := tWait_lt_156 s; omega)
    (by rcases hn with rfl | rfl; exacts [tHave_ne_tSend k s, tHave_ne_tWait k s])
    fun s' hs' => by
      have hne : s' ≠ s := fun h => (Finset.mem_erase.mp hk).1 (by rw [← hs', h])
      rcases hn with rfl | rfl
      · exact ⟨fun h => hne (tSend_inj h), (tSend_ne_tWait s s').symm⟩
      · exact ⟨tSend_ne_tWait s' s, fun h => hne (tWait_inj h)⟩

/-- The other share of a transfer's source does not change either. -/
theorem share_other (c : Dev nD) (s : Snd) (i : Fin 2) (hi : i ≠ sSlot s) {n : ℕ} (hn : n = tSend s ∨ n = tWait s) :
    share m c (sSrc s) i (n + 1) = share m c (sSrc s) i n :=
  share_idle m c _ i (by have := tSend_lt_156 s; have := tWait_lt_156 s; omega) fun s' _ hi' => by
    have hne : s' ≠ s := fun h => hi (by rw [← hi', h])
    rcases hn with rfl | rfl
    · exact ⟨fun h => hne (tSend_inj h), (tSend_ne_tWait s s').symm⟩
    · exact ⟨tSend_ne_tWait s' s, fun h => hne (tWait_inj h)⟩

/-- The two shares of a held piece, one of them named. -/
theorem held_at (c : Dev nD) (k : Key) (n : ℕ) (i : Fin 2) :
    held m c k n ⊣⊢ iprop(share m c k i n ∗ semVal (recvCell c k) 0 ∗ piece m c k shL ∗ share m c k (1 - i) n) := by
  unfold held
  refine ⟨?_, ?_⟩
  · fin_cases i
    · iintro ⟨H1, H2, H3, H4⟩
      isplitl [H3]; · iexact H3
      isplitl [H1]; · iexact H1
      isplitl [H2]; · iexact H2
      iexact H4
    · iintro ⟨H1, H2, H3, H4⟩
      isplitl [H4]; · iexact H4
      isplitl [H1]; · iexact H1
      isplitl [H2]; · iexact H2
      iexact H3
  · fin_cases i
    · iintro ⟨H3, H1, H2, H4⟩
      isplitl [H1]; · iexact H1
      isplitl [H2]; · iexact H2
      isplitl [H3]; · iexact H3
      iexact H4
    · iintro ⟨H4, H1, H2, H3⟩
      isplitl [H1]; · iexact H1
      isplitl [H2]; · iexact H2
      isplitl [H3]; · iexact H3
      iexact H4

theorem one_sub_ne (i : Fin 2) : (1 - i : Fin 2) ≠ i := by revert i; decide
theorem tHave_lt_tSend (s : Snd) : tHave (sSrc s) < tSend s := by rw [← tLend_of]; exact tLend_lt _ _

/-- Starting a transfer takes a share of its source; -/
theorem keys_send (c : Dev nD) (s : Snd) :
    keys m c (tSend s) ⊢ iprop(piece m c (sSrc s) (shT (sSlot s)) ∗ keys m c (tSend s + 1)) := by
  unfold keys
  have h0 := tHave_lt_tSend s
  rw [bigSep_univ_at (keyAt m c (tSend s)) (sSrc s), bigSep_univ_at (keyAt m c (tSend s + 1)) (sSrc s),
    rest_send_wait m c s (.inl rfl),
    show keyAt m c (tSend s) (sSrc s) = held m c (sSrc s) (tSend s) from if_neg (by omega),
    show keyAt m c (tSend s + 1) (sSrc s) = held m c (sSrc s) (tSend s + 1) from if_neg (by omega)]
  have h1 : share m c (sSrc s) (sSlot s) (tSend s) = piece m c (sSrc s) (shT (sSlot s)) := if_neg fun h => by rw [tLend_of] at h; omega
  have h2 : share m c (sSrc s) (sSlot s) (tSend s + 1) = iprop(emp) := if_pos (by rw [tLend_of, tBack_of]; have := tSend_lt_tWait s; omega)
  have h3 := share_other m c s (1 - sSlot s) (one_sub_ne _) (.inl rfl)
  iintro ⟨Hk, Hr⟩
  ihave H := (held_at m c (sSrc s) (tSend s) (sSlot s)).1 $$ Hk
  icases H with ⟨H1, Hz, HL, Ho⟩
  isplitl [H1]; · iapply (Entails.of_eq h1); iexact H1
  isplitr [Hr]
  · iapply (held_at m c (sSrc s) (tSend s + 1) (sSlot s)).2
    rw [h2, h3]
    isplitr; · iempintro
    isplitl [Hz]; · iexact Hz
    isplitl [HL]; · iexact HL
    iexact Ho
  iexact Hr

/-- waiting for its send brings the share back. -/
theorem keys_wait (c : Dev nD) (s : Snd) :
    iprop(piece m c (sSrc s) (shT (sSlot s)) ∗ keys m c (tWait s)) ⊢ keys m c (tWait s + 1) := by
  unfold keys
  have h0 := tHave_lt_tSend s
  have h0' := tSend_lt_tWait s
  rw [bigSep_univ_at (keyAt m c (tWait s)) (sSrc s), bigSep_univ_at (keyAt m c (tWait s + 1)) (sSrc s),
    rest_send_wait m c s (.inr rfl),
    show keyAt m c (tWait s) (sSrc s) = held m c (sSrc s) (tWait s) from if_neg (by omega),
    show keyAt m c (tWait s + 1) (sSrc s) = held m c (sSrc s) (tWait s + 1) from if_neg (by omega)]
  have h1 : share m c (sSrc s) (sSlot s) (tWait s + 1) = piece m c (sSrc s) (shT (sSlot s)) := if_neg fun h => by rw [tBack_of] at h; omega
  have h3 := share_other m c s (1 - sSlot s) (one_sub_ne _) (.inr rfl)
  iintro ⟨Hp, Hk, Hr⟩
  ihave H := (held_at m c (sSrc s) (tWait s) (sSlot s)).1 $$ Hk
  icases H with ⟨-, Hz, HL, Ho⟩
  isplitr [Hr]
  · iapply (held_at m c (sSrc s) (tWait s + 1) (sSlot s)).2
    rw [h1, h3]
    isplitl [Hp]; · iexact Hp
    isplitl [Hz]; · iexact Hz
    isplitl [HL]; · iexact HL
    iexact Ho
  iexact Hr

/-- The loads' shares of two pieces that are there, to be given back. -/
theorem keys_load (c : Dev nD) {n : ℕ} (k k' : Key) (hne : k' ≠ k) (hk : tHave k < n) (hk' : tHave k' < n) :
    keys m c n ⊢ iprop((piece m c k shL ∗ piece m c k' shL) ∗ ((piece m c k shL ∗ piece m c k' shL) -∗ keys m c n)) := by
  unfold keys
  rw [bigSep_univ_at (keyAt m c n) k,
    show bigSep (Finset.univ.erase k) (keyAt m c n) = iprop(keyAt m c n k' ∗ bigSep ((Finset.univ.erase k).erase k') (keyAt m c n)) from
      bigSep_erase (Finset.mem_erase.mpr ⟨hne, Finset.mem_univ _⟩),
    show keyAt m c n k = held m c k n from if_neg (by omega), show keyAt m c n k' = held m c k' n from if_neg (by omega)]
  unfold held
  iintro ⟨⟨H1, H2, H3⟩, ⟨H4, H5, H6⟩, Hr⟩
  isplitl [H2 H5]
  · isplitl [H2] <;> iassumption
  iintro ⟨H2, H5⟩
  isplitl [H1 H2 H3]
  · isplitl [H1]; · iexact H1
    isplitl [H2]; · iexact H2
    iexact H3
  isplitr [Hr]
  · isplitl [H4]; · iexact H4
    isplitl [H5]; · iexact H5
    iexact H6
  iexact Hr

/-! ## The transfers over time -/

/-- A transfer not yet started: its two duties, its send cell at round 0, the room it writes on the neighbour. -/
def ready (c : Dev nD) (s : Snd) : sProp 𝕄 :=
  iprop(dutyTok ER (sendCell c s) 0 0 ∗ dutyTok ER (recvCell (nbr c (sDim s)) (sDst s)) 0 0 ∗ atPos ER (sendCell c s) 0 ∅ 0
    ∗ room (nbr c (sDim s)) (sDst s))
/-- One started and not waited for: the credit to wait with. -/
def started (c : Dev nD) (s : Snd) : sProp 𝕄 :=
  iprop(cred (tallyAt (sendCell c s) () (amt (sSrc s))) ∗ atPos ER (sendCell c s) 0 ∅ 0)
def sendAt (c : Dev nD) (n : ℕ) (s : Snd) : sProp 𝕄 :=
  if n ≤ tSend s then ready c s else if n ≤ tWait s then started c s else semVal (sendCell c s) 0
def sends (c : Dev nD) (n : ℕ) : sProp 𝕄 := bigSep Finset.univ (sendAt (F := F) c n)

theorem sendAt_idle (c : Dev nD) (s : Snd) {n : ℕ} (h1 : tSend s ≠ n) (h2 : tWait s ≠ n) :
    sendAt (F := F) c (n + 1) s = sendAt c n s := by
  unfold sendAt
  by_cases h : n ≤ tSend s
  · rw [if_pos h, if_pos (by omega)]
  · rw [if_neg h, if_neg (by omega)]
    by_cases h' : n ≤ tWait s
    · rw [if_pos h', if_pos (by omega)]
    · rw [if_neg h', if_neg (by omega)]

theorem sends_have (c : Dev nD) (k : Key) : sends (F := F) c (tHave k) = sends c (tHave k + 1) :=
  bigSep_congr fun s _ => (sendAt_idle c s (tHave_ne_tSend k s).symm (tHave_ne_tWait k s).symm).symm
theorem sends_comp (c : Dev nD) (p : Blk) : sends (F := F) c (tComp p) = sends c (tComp p + 1) :=
  bigSep_congr fun s _ => (sendAt_idle c s (tSend_ne_tComp s p) (tWait_ne_tComp s p)).symm

theorem sends_send (c : Dev nD) (s : Snd) :
    sends (F := F) c (tSend s) ⊢ iprop(ready c s ∗ (started c s -∗ sends c (tSend s + 1))) := by
  unfold sends
  have h0 := tSend_lt_tWait s
  rw [bigSep_univ_at (sendAt c (tSend s)) s, bigSep_univ_at (sendAt c (tSend s + 1)) s,
    bigSep_congr (s := Finset.univ.erase s) (Φ := sendAt c (tSend s + 1)) (Ψ := sendAt (F := F) c (tSend s)) fun s' hs' =>
      sendAt_idle c s' (fun h => (Finset.mem_erase.mp hs').1 (tSend_inj h)) (tSend_ne_tWait s s').symm,
    show sendAt (F := F) c (tSend s) s = ready c s from if_pos le_rfl,
    show sendAt (F := F) c (tSend s + 1) s = started c s from (if_neg (by omega)).trans (if_pos (by omega))]
  iintro ⟨H1, Hr⟩
  isplitl [H1]; · iexact H1
  iintro H2
  isplitl [H2]; · iexact H2
  iexact Hr

theorem sends_wait (c : Dev nD) (s : Snd) :
    sends (F := F) c (tWait s) ⊢ iprop(started c s ∗ (semVal (sendCell c s) 0 -∗ sends c (tWait s + 1))) := by
  unfold sends
  have h0 := tSend_lt_tWait s
  rw [bigSep_univ_at (sendAt c (tWait s)) s, bigSep_univ_at (sendAt c (tWait s + 1)) s,
    bigSep_congr (s := Finset.univ.erase s) (Φ := sendAt c (tWait s + 1)) (Ψ := sendAt (F := F) c (tWait s)) fun s' hs' =>
      sendAt_idle c s' (tSend_ne_tWait s' s) (fun h => (Finset.mem_erase.mp hs').1 (tWait_inj h)),
    show sendAt (F := F) c (tWait s) s = started c s from (if_neg (by omega)).trans (if_pos le_rfl),
    show sendAt (F := F) c (tWait s + 1) s = semVal (sendCell c s) 0 from (if_neg (by omega)).trans (if_neg (by omega))]
  iintro ⟨H1, Hr⟩
  isplitl [H1]; · iexact H1
  iintro H2
  isplitl [H2]; · iexact H2
  iexact Hr

/-! ## The result over time -/

/-- The rows `176 j …` of device `d`'s rows, 176 or 160 of them, as a load of the gathered matrix reads them. -/
def xRow (d : Fin 8) (ρ : ℕ) (hρ : ρ < 512) (x : Fin 4096) : Elt F .bf16 :=
  xAt m d (fun | ⟨0, _⟩ => ⟨ρ, hρ⟩ | ⟨1, _⟩ => x : S512x4096.Idx)
def rows176 (d : Fin 8) (j : Fin 2) : Vec F S1x176x4096 .bf16 := fun q : S1x176x4096.Idx =>
  xRow m d (176 * j.val + (q 1).val) (by have h : (q 1).val < 176 := (q 1).isLt; omega) (q 2)
def rows160 (d : Fin 8) : Vec F S1x160x4096 .bf16 := fun q : S1x160x4096.Idx =>
  xRow m d (352 + (q 1).val) (by have h : (q 1).val < 160 := (q 1).isLt; omega) (q 2)

/-- The result's block for third `j` of device `d`'s rows, on device `c`. -/
def blk176 (c : Dev nD) (d : Fin 8) (j : Fin 2) : FVec F S176x256 .f32 := k0_pay9 (k0_pay7 (wAt m c)) (rows176 m d j)
def blk160 (c : Dev nD) (d : Fin 8) : FVec F S160x256 .f32 := k0_pay10 (k0_pay7 (wAt m c)) (rows160 m d)

/-- Row `ρ` of device `d`'s rows of the result, column `y`. -/
def outRow (c : Dev nD) (d : Fin 8) (ρ : ℕ) (hρ : ρ < 512) (y : Fin 256) : Elt F .f32 :=
  if h : ρ < 352 then blk176 m c d ⟨ρ / 176, by omega⟩ (fun | ⟨0, _⟩ => ⟨ρ % 176, Nat.mod_lt _ (by decide)⟩ | ⟨1, _⟩ => y : S176x256.Idx)
  else blk160 m c d (fun | ⟨0, _⟩ => ⟨ρ - 352, by show ρ - 352 < 160; omega⟩ | ⟨1, _⟩ => y : S160x256.Idx)
/-- The kernel's result on device `c`. -/
def outAt (c : Dev nD) : (cc0_stg2_0 : Ref sig .tc).ty.Contents (Elt F) := fun i : S4096x256.Idx =>
  outRow m c ⟨(i 0).val / 512, by have h : (i 0).val < 4096 := (i 0).isLt; omega⟩ ((i 0).val % 512) (Nat.mod_lt _ (by decide)) (i 1)

abbrev oL (c : Dev nD) : Loc nD τ sig := (c : Thread nD τ).loc cc0_stg2_0

/-- The first row of block `p` of the result on device `c`. -/
def bLo (c : Dev nD) (p : Blk) : ℕ := 512 * (dev c (bR p)).val + jLo (bJ p)
/-- The elements of block `p`. -/
def box (c : Dev nD) (p : Blk) : Finset S4096x256.Idx :=
  Finset.univ.filter fun i => bLo c p ≤ (i 0).val ∧ (i 0).val < bLo c p + jSz (bJ p)
theorem mem_box {c : Dev nD} {p : Blk} {i : S4096x256.Idx} : i ∈ box c p ↔ bLo c p ≤ (i 0).val ∧ (i 0).val < bLo c p + jSz (bJ p) := by
  simp [box]

/-- The result's buffer: the blocks already stored hold their values. -/
def result (c : Dev nD) (n : ℕ) : sProp 𝕄 :=
  iprop(∃ f : Buf (Elt F) (oL c), ⌜∀ p, tComp p < n → ∀ i ∈ box c p, f i = outAt m c i⌝ ∗ (oL c ↦{fullShare} f))

theorem result_idle (c : Dev nD) (n : ℕ) (h : ∀ p, tComp p ≠ n) : result m c n ⊢ result m c (n + 1) := by
  unfold result
  iintro ⟨%f, %hf, H⟩
  iexists f
  isplitr
  · ipureintro; exact fun p hp => hf p (by have := h p; omega)
  iexact H

/-! ## The whole state -/

/-- Every cell's invariant, and that every cell has reached round 0. -/
def records (K : Dev nD × Cell → ℕ) : sProp 𝕄 :=
  iprop((bigSep Finset.univ fun cx : Dev nD × Cell => cellInv ER (sched m) (K cx) (kcell cx))
    ∗ bigSep Finset.univ fun cx : Dev nD × Cell => reached ER (kcell cx) 0)

instance records_persistent (K : Dev nD × Cell → ℕ) : BI.Persistent (records m K) := by unfold records; infer_instance

theorem inv_of (K : Dev nD × Cell → ℕ) (cx : Dev nD × Cell) : records m K ⊢ cellInv ER (sched m) (K cx) (kcell cx) := by
  unfold records
  iintro ⟨H, -⟩
  iapply (show (bigSep Finset.univ fun cx : Dev nD × Cell => (cellInv ER (sched m) (K cx) (kcell cx) : sProp 𝕄)) ⊢ cellInv ER (sched m) (K cx) (kcell cx) from
    bigSep_elim (Finset.mem_univ cx))
  iexact H
theorem reached_of (K : Dev nD × Cell → ℕ) (cx : Dev nD × Cell) : records m K ⊢ reached ER (kcell cx) 0 := by
  unfold records
  iintro ⟨-, H⟩
  iapply (show (bigSep Finset.univ fun cx : Dev nD × Cell => (reached ER (kcell cx) 0 : sProp 𝕄)) ⊢ reached ER (kcell cx) 0 from
    bigSep_elim (Finset.mem_univ cx))
  iexact H

def owing (c : Dev nD) (n : ℕ) : sProp 𝕄 := iprop(∃ W, owes (c : Thread nD τ) (owed c n) W)
def xHeld (c : Dev nD) : sProp 𝕄 := (c : Thread nD τ).loc cc0_stg0_0 ↦{fullShare} xAt m c
def wHeld (c : Dev nD) : sProp 𝕄 := (c : Thread nD τ).loc cc0_stg1_0 ↦{fullShare} wAt m c

/-- What device `c` holds once `n` of its events are done, its entry barrier passed. -/
def St (K : Dev nD × Cell → ℕ) (c : Dev nD) (n : ℕ) : sProp 𝕄 :=
  iprop(records m K ∗ levAts L lv ∗ owing c n ∗ keys m c n ∗ sends c n ∗ result m c n ∗ xHeld m c ∗ wHeld m c ∗ semVal (barCell c) 0)

end Cert.KernelIdeal.Proof

end
-- ==== Proof.Deal.lean ====
/-
How the launch deals the cells: their invariants, the positions, the tokens of the duties.
-/
module

public import proofs.«01_k».proof.Proof.State

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The cells and the duties' tokens -/

/-- A device's duties: of its send cells, of the receive cells of the pieces it receives, of its barrier. -/
abbrev Tok : Type := Snd ⊕ (Snd ⊕ Fin 3)
def tcell : Tok → Cell
  | .inl s => .inl (.inl s)
  | .inr (.inl s) => .inl (.inr (sDst s))
  | .inr (.inr _) => .inr ()
def tduty : Tok → Fin 3
  | .inr (.inr d) => d
  | _ => 0
/-- The neighbour that pays a duty of device `a`, or whose duty device `a` pays. -/
def payer (a : Dev nD) : Tok → Dev nD
  | .inl _ => a
  | .inr (.inl s) => nbr a (sDim s)
  | .inr (.inr d) => nbr a d

theorem tok_injective {t t' : Tok} (h1 : tcell t = tcell t') (h2 : tduty t = tduty t') : t = t' := by
  rcases t with s | s | d <;> rcases t' with s' | s' | d' <;> simp only [tcell, tduty, Sum.inl.injEq, Sum.inr.injEq, reduceCtorEq] at h1 h2 ⊢
  · exact h1
  · exact sDst_inj h1
  · exact h2

theorem payer_payer (a : Dev nD) (t : Tok) : payer (payer a t) t = a := by
  rcases t with s | s | d
  · rfl
  · exact nbr_nbr a (sDim s)
  · exact nbr_nbr a d
def payE (t : Tok) : Dev nD ≃ Dev nD := ⟨fun a => payer a t, fun a => payer a t, fun a => payer_payer a t, fun a => payer_payer a t⟩

def cells : Finset (GSem nD τ sig) := Finset.univ.map ⟨kcell, kcell_injective⟩
def tokOf (ct : Dev nD × Tok) : GSem nD τ sig × ℕ × Fin 3 := (kcell (ct.1, tcell ct.2), 0, tduty ct.2)
theorem tokOf_injective : Function.Injective tokOf := by
  rintro ⟨a, t⟩ ⟨a', t'⟩ h
  have h1 : (a, tcell t) = (a', tcell t') := kcell_injective (congrArg Prod.fst h)
  exact Prod.ext (Prod.mk.inj h1).1 (tok_injective (Prod.mk.inj h1).2 (congrArg (fun x : GSem nD τ sig × ℕ × Fin 3 => x.2.2) h))
def toksF : Finset (GSem nD τ sig × ℕ × Fin 3) := Finset.univ.map ⟨tokOf, tokOf_injective⟩

/-- What the run starts from besides the memory. -/
def u₀ : UU := (initOf (Pipeline.cells cfgs cellOf_inj) (Pipeline.launchToks cfgs cellOf_inj), initOf cells toksF)

/-- The tokens of device `c`'s own duties; of those it pays. -/
def toks : sProp 𝕄 := bigSep Finset.univ fun t : Tok => dutyTok ER (kcell (c, tcell t)) 0 (tduty t)
def payToks : sProp 𝕄 := bigSep Finset.univ fun t : Tok => dutyTok ER (kcell (payer c t, tcell t)) 0 (tduty t)
/-- What device `c` is dealt. -/
def dealt : sProp 𝕄 :=
  iprop((bigSep Finset.univ fun x : Cell => roundState ER (sched m) (kcell (c, x)) 0)
    ∗ (bigSep Finset.univ fun x : Cell => iprop(atPos ER (kcell (c, x)) 0 ∅ 0 ∗ reached ER (kcell (c, x)) 0)) ∗ toks (F := F) c)
/-- What it keeps to itself: its positions and the tokens of the duties it pays; and with the records everyone has. -/
def linear : sProp 𝕄 := iprop((bigSep Finset.univ fun x : Cell => atPos ER (kcell (c, x)) 0 ∅ 0) ∗ payToks (F := F) c)
def dealt' : sProp 𝕄 := iprop(∃ K, records m K ∗ linear (F := F) c)

/-- The launch's element pays for what the devices are dealt. -/
theorem fund_cells : BI.own (ER (initOf cells toksF)) ⊢ (|==> bigSep Finset.univ (dealt m) : sProp 𝕄) := by
  have hX (Φ : GSem nD τ sig → sProp 𝕄) : bigSep cells Φ = bigSep Finset.univ fun a : Dev nD => bigSep Finset.univ fun x : Cell => Φ (kcell (a, x)) := by
    unfold cells; rw [bigSep_map, bigSep_univ_prod]; rfl
  have hT : bigSep toksF (fun x => (dutyTok ER x.1 x.2.1 x.2.2 : sProp 𝕄)) = bigSep Finset.univ fun a : Dev nD => toks (F := F) a := by
    unfold toksF; rw [bigSep_map, bigSep_univ_prod]; rfl
  iintro HX
  imod (Rounds.fund ER (sched m) cells toksF) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores at zero -/

theorem ownSemFacts : Pipeline.OwnSemFacts cfg0.spec osem where
  isScoped := by decide +kernel
  inj := fun x y h => Sum.inl.inj (csem_inj (x := .inl x) (y := .inl y) h)
  disj := by decide +kernel

theorem unscopedSems0_eq : (unscopedSems0 c : sProp 𝕄) = semVal (barCell c) 0 := by
  unfold unscopedSems0; rw [bigSep_eq_bigSepL_of_eq [SemLoc.reg barS] (by decide +kernel) (by decide)]; rfl

/-- The kernel's own semaphores and the barrier's are all the protocol's cells. -/
theorem sems0_eq :
    iprop(Pipeline.ownSems0 (Ix := Unit) (Name := ℕ) (U := UU) (Lvl := ℕ) (Val := Elt F) (τ := τ) osem c ∗ unscopedSems0 c)
      = (bigSep Finset.univ fun x : Cell => semVal (kcell (c, x)) 0 : sProp 𝕄) := by
  rw [unscopedSems0_eq, BI.bigSep_univ_sum, BI.bigSep_univ_of_subsingleton ()]; rfl

/-- Each cell's invariant is made. -/
theorem core_alloc :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : Cell => iprop(∃ κ : ℕ, cellInv ER (sched m) κ (kcell (c, x))))
          ∗ (bigSep Finset.univ fun x : Cell => iprop(atPos ER (kcell (c, x)) 0 ∅ 0 ∗ reached ER (kcell (c, x)) 0)) ∗ toks (F := F) c) := by
  unfold dealt
  iintro ⟨Hos, Hus, Hst, Hat, Htok⟩
  ihave Hv := (Entails.of_eq (sems0_eq (F := F) c)) $$ [Hos Hus]
  · isplitl [Hos] <;> iassumption
  imod (show iprop((bigSep Finset.univ fun x : Cell => semVal (kcell (c, x)) 0) ∗ bigSep Finset.univ fun x : Cell => roundState ER (sched m) (kcell (c, x)) 0)
      ⊢ (|={Set.univ}=> bigSep Finset.univ fun x => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## The dealing -/

/-- The tokens go to those who pay. -/
theorem toks_around : (bigSep Finset.univ fun a : Dev nD => toks (F := F) a) = bigSep Finset.univ fun a : Dev nD => payToks (F := F) a := by
  unfold toks payToks
  rw [BI.bigSep_univ_comm, BI.bigSep_univ_comm (fun (a : Dev nD) (t : Tok) => (dutyTok ER (kcell (payer a t, tcell t)) 0 (tduty t) : sProp 𝕄))]
  exact bigSep_congr fun t _ => bigSep_univ_equiv (payE t) _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro : iprop(records m K ∗ linear (F := F) c) ⊢ dealt' m c := by
  unfold dealt'
  iintro H
  iexists K
  iexact H

theorem regroup :
    (bigSep Finset.univ fun a : Dev nD => iprop((bigSep Finset.univ fun x : Cell => iprop(∃ κ : ℕ, cellInv ER (sched m) κ (kcell (a, x))))
          ∗ (bigSep Finset.univ fun x : Cell => iprop(atPos ER (kcell (a, x)) 0 ∅ 0 ∗ reached ER (kcell (a, x)) 0)) ∗ toks (F := F) a) : sProp 𝕄)
      ⊢ bigSep Finset.univ (dealt' m) := by
  rw [bigSep_sep', bigSep_sep', ← bigSep_univ_prod (fun ax : Dev nD × Cell => iprop(∃ κ : ℕ, cellInv ER (sched m) κ (kcell ax))),
    bigSep_congr (s := Finset.univ) (fun (a : Dev nD) _ => bigSep_sep' Finset.univ (fun x : Cell => (atPos ER (kcell (a, x)) 0 ∅ 0 : sProp 𝕄)) (fun x => reached ER (kcell (a, x)) 0)),
    bigSep_sep', ← bigSep_univ_prod (fun ax : Dev nD × Cell => (reached ER (kcell ax) 0 : sProp 𝕄)), toks_around]
  iintro ⟨HI, ⟨Hat, #HR⟩, Htok⟩
  ihave HK := (BI.bigSep_exists_pi Finset.univ (fun (ax : Dev nD × Cell) (κ : ℕ) => (cellInv ER (sched m) κ (kcell ax) : sProp 𝕄))) $$ HI
  icases HK with ⟨%K, #HI⟩
  iapply (with_records (R := records m K) fun a _ => dealt_intro m K a)
  isplitr
  · unfold records; isplitl; · iexact HI
    iexact HR
  · iapply (Entails.of_eq (bigSep_sep' Finset.univ (fun a : Dev nD => bigSep Finset.univ fun x : Cell => (atPos ER (kcell (a, x)) 0 ∅ 0 : sProp 𝕄)) (payToks (F := F))).symm)
    isplitl [Hat]; · iexact Hat
    iexact Htok

/-- All devices' semaphores at zero and what they are dealt make the records and leave each device its own. -/
theorem glob : (bigSep Finset.univ fun a => iprop(Pipeline.ownSems0 (Ix := Unit) (Name := ℕ) (U := UU) (Lvl := ℕ) (Val := Elt F) (τ := τ) osem a ∗ unscopedSems0 a ∗ dealt m a) : sProp 𝕄)
    ⊢ |={Set.univ}=> bigSep Finset.univ (dealt' m) :=
  ((bigSep_mono fun a _ => core_alloc m a).trans (bigSep_fupd _ _)).trans (BI.fupd_mono (regroup m))

end Cert.KernelIdeal.Proof

end
-- ==== Proof.Steps.lean ====
/-
One lemma per kind of memory operation: from the state before it to the state after it.
-/
module

public import proofs.«01_k».proof.Proof.State

@[expose] public section

noncomputable section

namespace Cert.KernelIdeal.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Cell → ℕ) (c : Dev nD)

/-! ## The elements a rectangle of the gathered matrix covers -/

section Geometry

variable {off sz : Fin S8x512x4096.rank → ℕ} {h : ∀ a, off a + sz a ≤ S8x512x4096.size a} {d : Fin 8} {lo n : ℕ}

theorem rect_set (ho : off = ![d.val, lo, 0]) (hs : sz = ![1, n, 4096]) : (Rect.unit (s := S8x512x4096) off sz h).set = band d lo n := by
  subst ho hs
  ext i
  rw [Rect.mem_set_unit, mem_band]
  constructor
  · intro H
    have h0 := H 0; have h1 := H 1
    simp only [Matrix.cons_val_zero, Matrix.cons_val_one] at h0 h1
    omega
  · rintro ⟨h0, h1, h2⟩ a
    have hb : (i 2).val < 4096 := (i 2).isLt
    fin_cases a
    · simp only [Fin.zero_eta, Matrix.cons_val_zero]; omega
    · simp only [Fin.mk_one, Matrix.cons_val_one, Matrix.cons_val_zero]; omega
    · simp only [Fin.reduceFinMk, Matrix.cons_val]; omega

/-- The elements a load or a store through the rectangle touches; -/
theorem access_set (ho : off = ![d.val, lo, 0]) (hs : sz = ![1, n, 4096]) :
    ((gM).access (Rect.unit (s := S8x512x4096) off sz h)).set = band d lo n := by
  rw [← rect_set (h := h) ho hs]
  exact View.set_slice_whole cc0_scratch0 _

/-- the elements a transfer's memref covers. -/
theorem slice_set {s' : Shape} (ho : off = ![d.val, lo, 0]) (hs : sz = ![1, n, 4096]) (hc) (hq : (Rect.unit (s := S8x512x4096) off sz h).shape.Squeezes s') :
    ((gM.slice (Rect.unit (s := S8x512x4096) off sz h) hc).squeeze s' hq).view.set = band d lo n := by
  rw [← rect_set (h := h) ho hs]
  exact (View.set_reshape _ _).trans (View.set_slice_whole cc0_scratch0 _)

/-- A band of rows is its first rows and the rest. -/
theorem band_union (d : Fin 8) (lo n n' : ℕ) : band d lo (n + n') = band d lo n ∪ band d (lo + n) n' := by
  ext i; rw [Finset.mem_union, mem_band, mem_band, mem_band]; omega
theorem band_disjoint (d : Fin 8) (lo n n' : ℕ) : Disjoint (band d lo n) (band d (lo + n) n') := by
  rw [Finset.disjoint_left]; intro i; rw [mem_band, mem_band]; omega

end Geometry

/-- The two pieces of a third are its rows. -/
theorem reg_pair (p : Blk) : band (dev c (bR p)) (jLo (bJ p)) (jSz (bJ p)) = reg c (bKey p 0) ∪ reg c (bKey p 1) := by
  have e : kR (bKey p 0) = bR p ∧ kR (bKey p 1) = bR p ∧ kLo (bKey p 0) = jLo (bJ p) ∧ kLo (bKey p 1) = jLo (bJ p) + kSz (bKey p 0)
      ∧ jSz (bJ p) = kSz (bKey p 0) + kSz (bKey p 1) := by revert p; decide +kernel
  obtain ⟨e1, e2, e3, e4, e5⟩ := e
  unfold reg; rw [e1, e2, e3, e4, e5]; exact band_union _ _ _ _
theorem reg_pair_disjoint (p : Blk) : Disjoint (reg c (bKey p 0)) (reg c (bKey p 1)) := by
  have e : kR (bKey p 0) = bR p ∧ kR (bKey p 1) = bR p ∧ kLo (bKey p 0) = jLo (bJ p) ∧ kLo (bKey p 1) = jLo (bJ p) + kSz (bKey p 0) := by
    revert p; decide +kernel
  obtain ⟨e1, e2, e3, e4⟩ := e
  unfold reg; rw [e1, e2, e3, e4]; exact band_disjoint _ _ _ _
theorem bKey_ne (p : Blk) : bKey p 1 ≠ bKey p 0 := by revert p; decide +kernel

/-! ## Loads -/

section Ops

/-- A load of the device's own rows. -/
theorem step_loadX {α : Type} {Q : α → sProp 𝕄} {n : ℕ} {r : Rect S512x4096} {hl : xM.view.LoadsAt r.toLoadRect} {k : (r.toLoadRect.shape.Idx → Elt F .bf16) → Prog (TpuEff nD τ sig (Elt F) Λ₀ .tc) α}
    (h : St m K c n ⊢ wpc c (k (xM.view.readAt (Elt F) r.toLoadRect (xAt m c))) Q) :
    St m K c n ⊢ wpc c (.op (.load xM r.toLoadRect hl) k) Q := by
  unfold St xHeld
  iintro ⟨#HR, #HL, HO, Hk, Hs, Hr, Hx, Hw, Hb⟩
  iapply (wp_load 𝒱₀ (c : Thread nD τ) none Set.univ (m := xM) (Finset.subset_univ _)) $$ Hx; iintro Hx
  iapply h
  unfold St xHeld
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

/-- A load of its columns of the second matrix. -/
theorem step_loadW {α : Type} {Q : α → sProp 𝕄} {n : ℕ} {r : Rect S4096x256} {hl : wM.view.LoadsAt r.toLoadRect} {k : (r.toLoadRect.shape.Idx → Elt F .bf16) → Prog (TpuEff nD τ sig (Elt F) Λ₀ .tc) α}
    (h : St m K c n ⊢ wpc c (k (wM.view.readAt (Elt F) r.toLoadRect (wAt m c))) Q) :
    St m K c n ⊢ wpc c (.op (.load wM r.toLoadRect hl) k) Q := by
  unfold St wHeld
  iintro ⟨#HR, #HL, HO, Hk, Hs, Hr, Hx, Hw, Hb⟩
  iapply (wp_load 𝒱₀ (c : Thread nD τ) none Set.univ (m := wM) (Finset.subset_univ _)) $$ Hw; iintro Hw
  iapply h
  unfold St wHeld
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

/-- A load of the result's buffer, whatever it reads. -/
theorem step_loadO {α : Type} {Q : α → sProp 𝕄} {n : ℕ} {r : Rect S4096x256} {hl : oM.view.LoadsAt r.toLoadRect} {k : (r.toLoadRect.shape.Idx → Elt F .f32) → Prog (TpuEff nD τ sig (Elt F) Λ₀ .tc) α}
    (h : ∀ v, St m K c n ⊢ wpc c (k v) Q) :
    St m K c n ⊢ wpc c (.op (.load oM r.toLoadRect hl) k) Q := by
  unfold St result
  iintro ⟨#HR, #HL, HO, Hk, Hs, ⟨%f, %hf, Hr⟩, Hx, Hw, Hb⟩
  iapply (wp_load 𝒱₀ (c : Thread nD τ) none Set.univ (m := oM) (Finset.subset_univ _)) $$ Hr; iintro Hr
  iapply (h _)
  unfold St result
  isplitr; · iexact HR
  isplitr; · iexact HL
  isplitl [HO]; · iexact HO
  isplitl [Hk]; · iexact Hk
  isplitl [Hs]; · iexact Hs
  isplitl [Hr]
  · iexists f; isplitr
    · ipureintro; exact hf
    iexact Hr
  isplitl [Hx]; · iexact Hx
  isplitl [Hw]; · iexact Hw
  iexact Hb

/-- A store of block `p` of the result. -/
theorem step_storeO {α : Type} {Q : α → sProp 𝕄} {n : ℕ} (p : Blk) {r : Rect S4096x256} {w : r.shape.Idx → Elt F .f32} {hx : ((oM).access r).Stores Finset.univ} {hm}
    {k : PUnit → Prog (TpuEff nD τ sig (Elt F) Λ₀ .tc) α} (hn : tComp p = n)
    (hset : box c p ⊆ r.set) (hval : ∀ q, w q = outAt m c (r.emb q))
    (h : St m K c (n + 1) ⊢ wpc c (k ⟨⟩) Q) :
    St m K c n ⊢ wpc c (.op (.store oM r w Finset.univ hx hm) k) Q := by
  subst hn
  unfold St owing result
  rw [keys_comp m c p, sends_comp c p, ← owed_idle c (tComp p) fun s => tSend_ne_tComp s p]
  iintro ⟨#HR, #HL, HO, Hk, Hs, ⟨%f, %hf, Hr⟩, Hx, Hw, Hb⟩
  iapply (wp_store 𝒱₀ (c : Thread nD τ) none Set.univ (m := oM) (r := r) (Mk := Finset.univ) (Finset.subset_univ _)) $$ Hr; iintro Hr
  iapply h
  unfold St owing result
  isplitr; · iexact HR
  isplitr; · iexact HL
  isplitl [HO]; · iexact HO
  isplitl [Hk]; · iexact Hk
  isplitl [Hs]; · iexact Hs
  isplitl [Hr]
  · iexists _; isplitr
    rotate_left
    · iexact Hr
    ipureintro
    intro p' hp' i hi
    by_cases hir : i ∈ ((oM).access r).set
    · obtain ⟨q, -, rfl⟩ := Finset.mem_map.mp hir
      exact (View.write_emb_of_mem _ _ (Finset.mem_univ q)).trans (hval q)
    · rw [View.write_of_not_mem _ _ _ hir]
      refine hf p' (lt_of_le_of_ne (Nat.lt_succ_iff.mp hp') fun he => hir ?_) i hi
      rw [tComp_inj he] at hi
      rw [show ((oM).access r).set = r.set from View.set_slice_whole cc0_stg2_0 r]
      exact hset hi
  isplitl [Hx]; · iexact Hx
  isplitl [Hw]; · iexact Hw
  iexact Hb

/-- A load of a third's rows of the gathered matrix, both of whose pieces are there. -/
theorem step_loadG {α : Type} {Q : α → sProp 𝕄} {n : ℕ} (p : Blk) {off sz : Fin S8x512x4096.rank → ℕ} {hb : ∀ a, off a + sz a ≤ S8x512x4096.size a}
    {hl : gM.view.LoadsAt (Rect.unit (s := S8x512x4096) off sz hb).toLoadRect}
    {k : ((Rect.unit (s := S8x512x4096) off sz hb).toLoadRect.shape.Idx → Elt F .bf16) → Prog (TpuEff nD τ sig (Elt F) Λ₀ .tc) α}
    (h0 : tHave (bKey p 0) < n) (h1 : tHave (bKey p 1) < n)
    (ho : off = ![(dev c (bR p)).val, jLo (bJ p), 0]) (hs : sz = ![1, jSz (bJ p), 4096])
    (h : St m K c n ⊢ wpc c (k (gM.view.readAt (Elt F) (Rect.unit (s := S8x512x4096) off sz hb).toLoadRect (gAt m c))) Q) :
    St m K c n ⊢ wpc c (.op (.load gM (Rect.unit (s := S8x512x4096) off sz hb).toLoadRect hl) k) Q := by
  unfold St
  iintro ⟨#HR, #HL, HO, Hk, Hs, Hr, Hx, Hw, Hb⟩
  ihave H := (keys_load m c (bKey p 0) (bKey p 1) (bKey_ne p) h0 h1) $$ Hk
  icases H with ⟨Hp, Hback⟩
  ihave Hg := (show iprop(piece m c (bKey p 0) shL ∗ piece m c (bKey p 1) shL)
      ⊢ (gL c ↦[((gM).access (Rect.unit (s := S8x512x4096) off sz hb)).set]{shL} gAt m c : sProp 𝕄) from by
    rw [access_set ho hs, reg_pair c p]; exact (pointsTo_union (reg_pair_disjoint c p)).2) $$ Hp
  iapply (wp_load_rect 𝒱₀ (c : Thread nD τ) none Set.univ (m := gM) (r := Rect.unit (s := S8x512x4096) off sz hb) (Finset.Subset.refl _)) $$ Hg; iintro Hg
  ihave Hp := (show (gL c ↦[((gM).access (Rect.unit (s := S8x512x4096) off sz hb)).set]{shL} gAt m c : sProp 𝕄)
      ⊢ iprop(piece m c (bKey p 0) shL ∗ piece m c (bKey p 1) shL) from by
    rw [access_set ho hs, reg_pair c p]; exact (pointsTo_union (reg_pair_disjoint c p)).1) $$ Hg
  ihave Hk := Hback $$ Hp
  iapply h
  unfold St
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

/-! ## The device's own pieces -/

/-- Putting together the state after a piece has become available. -/
theorem St_have {n : ℕ} (key : Key) (hn : tHave key = n) :
    iprop(records m K ∗ levAts L lv ∗ owing c n ∗ keys m c (n + 1) ∗ sends c n ∗ result m c n ∗ xHeld m c ∗ wHeld m c ∗ semVal (barCell c) 0)
      ⊢ St m K c (n + 1) := by
  subst hn
  unfold St owing
  rw [sends_have c key, owed_idle c (tHave key) fun s => (tHave_ne_tSend key s).symm]
  iintro ⟨#HR, #HL, HO, Hk, Hs, Hr, Hx, Hw, Hb⟩
  ihave Hr := (result_idle m c (tHave key) fun p => (tHave_ne_tComp key p).symm) $$ Hr
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

/-- A load of the room one of the device's own pieces is about to be stored in, whatever it reads. -/
theorem step_loadRoom {α : Type} {Q : α → sProp 𝕄} {n : ℕ} (key : Key) {off sz : Fin S8x512x4096.rank → ℕ} {hb : ∀ a, off a + sz a ≤ S8x512x4096.size a}
    {hl : gM.view.LoadsAt (Rect.unit (s := S8x512x4096) off sz hb).toLoadRect}
    {k : ((Rect.unit (s := S8x512x4096) off sz hb).toLoadRect.shape.Idx → Elt F .bf16) → Prog (TpuEff nD τ sig (Elt F) Λ₀ .tc) α}
    (hn : tHave key = n) (hr : kR key = 0)
    (ho : off = ![(dev c (kR key)).val, kLo key, 0]) (hs : sz = ![1, kSz key, 4096])
    (h : ∀ v, St m K c n ⊢ wpc c (k v) Q) :
    St m K c n ⊢ wpc c (.op (.load gM (Rect.unit (s := S8x512x4096) off sz hb).toLoadRect hl) k) Q := by
  subst hn
  have hk : keys m c (tHave key) ⊢ iprop(room c key ∗ (room c key -∗ keys m c (tHave key))) := by
    unfold keys
    rw [bigSep_univ_at (keyAt m c (tHave key)) key, show keyAt m c (tHave key) key = pend c key from if_pos le_rfl]
    unfold pend
    rw [if_pos hr]
    iintro ⟨⟨Ha, Hr⟩, He⟩
    isplitl [Hr]; · iexact Hr
    iintro Hr
    isplitl [Ha Hr]
    · isplitl [Ha] <;> iassumption
    iexact He
  unfold St
  iintro ⟨#HR, #HL, HO, Hk, Hs, Hr, Hx, Hw, Hb⟩
  ihave H := hk $$ Hk
  unfold room pieceAt
  icases H with ⟨⟨%f, Hg⟩, Hback⟩
  iapply (wp_load_rect 𝒱₀ (c : Thread nD τ) none Set.univ (m := gM) (r := Rect.unit (s := S8x512x4096) off sz hb) (S := reg c key) (by rw [access_set ho hs]; exact Finset.Subset.refl _)) $$ Hg; iintro Hg
  ihave Hk := Hback $$ [Hg]
  · iexists f; iexact Hg
  iapply (h _)
  unfold St
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

/-- The store of one of the device's own pieces. -/
theorem step_storeG {α : Type} {Q : α → sProp 𝕄} {n : ℕ} (key : Key) {off sz : Fin S8x512x4096.rank → ℕ} {hb : ∀ a, off a + sz a ≤ S8x512x4096.size a}
    {w : (Rect.unit (s := S8x512x4096) off sz hb).shape.Idx → Elt F .bf16}
    {hx : ((gM).access (Rect.unit (s := S8x512x4096) off sz hb)).Stores Finset.univ} {hm}
    {k : PUnit → Prog (TpuEff nD τ sig (Elt F) Λ₀ .tc) α}
    (hn : tHave key = n) (hr : kR key = 0)
    (ho : off = ![(dev c (kR key)).val, kLo key, 0]) (hs : sz = ![1, kSz key, 4096])
    (hval : ∀ q, w q = gAt m c ((Rect.unit (s := S8x512x4096) off sz hb).emb q))
    (h : St m K c (n + 1) ⊢ wpc c (k ⟨⟩) Q) :
    St m K c n ⊢ wpc c (.op (.store gM (Rect.unit (s := S8x512x4096) off sz hb) w Finset.univ hx hm) k) Q := by
  subst hn
  unfold St
  iintro ⟨#HR, #HL, HO, Hk, Hs, Hr, Hx, Hw, Hb⟩
  ihave H := (keys_have m c key) $$ Hk
  unfold pend
  rw [if_pos hr]
  unfold room pieceAt
  icases H with ⟨⟨Hat, ⟨%f, Hg⟩⟩, Hback⟩
  imod (Rounds.cell_close ER (sched m) (Set.mem_univ (K (c, .inl (.inr key)))) (fun h => h) (R := 0) (duties_none m c key hr)) $$ [Hat] with Hz
  · isplitr; · iapply (inv_of m K (c, .inl (.inr key))); iexact HR
    iexact Hat
  iapply (wp_store 𝒱₀ (c : Thread nD τ) none Set.univ (m := gM) (r := Rect.unit (s := S8x512x4096) off sz hb) (Mk := Finset.univ) (S := reg c key)
    (by rw [View.setOn_univ, access_set ho hs]; exact Finset.Subset.refl _)) $$ Hg; iintro Hg
  ihave Hg := (show (gL c ↦[reg c key]{fullShare} (((gM).access (Rect.unit (s := S8x512x4096) off sz hb)).write (Elt F) f w Finset.univ) : sProp 𝕄)
      ⊢ piece m c key fullShare from Entails.of_eq (pointsTo_congr fun i hi => by
        have hi' : i ∈ ((gM).access (Rect.unit (s := S8x512x4096) off sz hb)).set := by rw [access_set ho hs]; exact hi
        obtain ⟨q, -, rfl⟩ := Finset.mem_map.mp hi'
        exact (View.write_emb_of_mem _ _ (Finset.mem_univ q)).trans (hval q))) $$ Hg
  ihave Hk := Hback $$ [Hz Hg]
  · isplitl [Hz] <;> iassumption
  iapply h
  iapply (St_have m K c key rfl)
  isplitr; · iexact HR
  isplitr; · iexact HL
  isplitl [HO]; · iexact HO
  isplitl [Hk]; · iexact Hk
  isplitl [Hs]; · iexact Hs
  isplitl [Hr]; · iexact Hr
  isplitl [Hx]; · iexact Hx
  isplitl [Hw]; · iexact Hw
  iexact Hb

end Ops

end Cert.KernelIdeal.Proof

end
-- ==== Proof.Steps2.lean ====
/-
The remote copies and the waits: from the state before each to the state after it.
-/
module

public import proofs.«01_k».proof.Proof.Steps

@[expose] public section

noncomputable section

namespace Cert.KernelIdeal.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Transfers and waits -/

/-- A transfer: piece `sSrc s` of this device goes to the same place on the neighbour across dimension `sDim s`. -/
theorem step_send {α : Type} {Q : α → sProp 𝕄} {n : ℕ} (s : Snd) {off sz : Fin S8x512x4096.rank → ℕ} {hb : ∀ a, off a + sz a ≤ S8x512x4096.size a}
    {s' : Shape} {hc} {hq : (Rect.unit (s := S8x512x4096) off sz hb).shape.Squeezes s'} {n' : Dev nD} {sem₁ sem₂ : SemLoc sig} {hsc hsrc hdst hsem}
    {k : PUnit → Prog (TpuEff nD τ sig (Elt F) Λ₀ .tc) α}
    (hn : tSend s = n) (hd : n' = nbr c (sDim s)) (h1 : sem₁ = .dma (sendS s)) (h2 : sem₂ = .dma (recvS (sDst s)))
    (ho : off = ![(dev c (kR (sSrc s))).val, kLo (sSrc s), 0]) (hs : sz = ![1, kSz (sSrc s), 4096])
    (hN : ((gM.slice (Rect.unit (s := S8x512x4096) off sz hb) hc).squeeze s' hq).view.amount sem₂ = amt (sSrc s))
    (h : St m K c (n + 1) ⊢ wpc c (k ⟨⟩) Q) :
    St m K c n ⊢ wpc c (.op (.enqueueDma ((gM.slice (Rect.unit (s := S8x512x4096) off sz hb) hc).squeeze s' hq)
      (.remote (Dev.tc n' : Thread nD τ) ((gM.slice (Rect.unit (s := S8x512x4096) off sz hb) hc).squeeze s' hq) sem₁ hsc) sem₂ hsrc hdst hsem) k) Q := by
  subst hn hd h1 h2
  have hset : ((gM.slice (Rect.unit (s := S8x512x4096) off sz hb) hc).squeeze s' hq).view.set = reg c (sSrc s) := slice_set ho hs hc hq
  have hset' : reg (nbr c (sDim s)) (sDst s) = reg c (sSrc s) := reg_sDst c s
  unfold St owing
  iintro ⟨#HR, #HL, ⟨%W, HO⟩, Hk, Hs, Hr, Hx, Hw, Hb⟩
  ihave H := (keys_send m c s) $$ Hk
  icases H with ⟨Hp, Hk⟩
  ihave H := (sends_send c s) $$ Hs
  unfold ready room
  icases H with ⟨⟨Ht1, Ht2, Hat, ⟨%fd, Hroom⟩⟩, Hback⟩
  ihave Hsrc := (show piece m c (sSrc s) (shT (sSlot s)) ⊢ (gL c ↦[((gM.slice (Rect.unit (s := S8x512x4096) off sz hb) hc).squeeze s' hq).view.set]{shT (sSlot s)} gAt m c : sProp 𝕄)
    from Entails.of_eq (by rw [hset]; rfl)) $$ Hp
  ihave Hdst := (show pieceAt (nbr c (sDim s)) (sDst s) fullShare fd ⊢ (gL (nbr c (sDim s)) ↦[((gM.slice (Rect.unit (s := S8x512x4096) off sz hb) hc).squeeze s' hq).view.set]{fullShare} fd : sProp 𝕄)
    from Entails.of_eq (by rw [hset, ← hset']; rfl)) $$ Hroom
  iapply (Rounds.wp_send_pointsTo 𝒱₀ ER (sched m) (c : Thread nD τ) none (κ₁ := K (c, .inl (.inl s))) (κ₂ := K (nbr c (sDim s), .inl (.inr (sDst s))))
    (src := ((gM.slice (Rect.unit (s := S8x512x4096) off sz hb) hc).squeeze s' hq))
    (dst := ((gM.slice (Rect.unit (s := S8x512x4096) off sz hb) hc).squeeze s' hq)) (c' := (nbr c (sDim s) : Thread nD τ))
    (sS := .dma (sendS s)) (sem := .dma (recvS (sDst s))) (q := shT (sSlot s)) (fs := gAt m c)
    (r₁ := 0) (r₂ := 0) (d₁ := 0) (d₂ := 0) (fd := fd)
    (by rw [show (sched m).duties ((c : Thread nD τ), SemLoc.dma (sendS s)) 0 = {0} from duties_send m c s]; exact Finset.mem_singleton_self _)
    (by rw [show (sched m).duties ((nbr c (sDim s) : Thread nD τ), SemLoc.dma (recvS (sDst s))) 0 = {0} from duties_recv m _ _ (kR_sDst s)]; exact Finset.mem_singleton_self _)
    () () (amt (sSrc s)) hN (amount_cell m c (.inl (.inl s)) 0)
    ((amount_cell m (nbr c (sDim s)) (.inl (.inr (sDst s))) 0).trans (amt_sDst s))
    (owed c (tSend s + 1)) (owed_send c s) (W := W)
    (by rw [show (sched m).payload ((c : Thread nD τ), SemLoc.dma (sendS s)) 0 0 = piece m c (sSrc s) (shT (sSlot s)) from payload_cell m c (.inl (.inl s)) 0]
        exact Entails.of_eq (by rw [hset]; rfl))
    (by rw [show (sched m).payload ((nbr c (sDim s) : Thread nD τ), SemLoc.dma (recvS (sDst s))) 0 0 = piece m (nbr c (sDim s)) (sDst s) fullShare from payload_cell m _ (.inl (.inr (sDst s))) 0]
        refine Entails.of_eq ?_
        rw [View.write_read_eq_piecewise, View.setOn_univ, hset, ← hset']
        refine (pointsTo_congr fun i hi => ?_).trans rfl
        exact Finset.piecewise_eq_of_mem _ _ _ hi)) $$ [HO Ht1 Ht2 Hsrc Hdst]
  · isplitr; · iapply (inv_of m K (c, .inl (.inl s))); iexact HR
    isplitr; · iapply (inv_of m K (nbr c (sDim s), .inl (.inr (sDst s)))); iexact HR
    isplitl [Hsrc]; · iexact Hsrc
    isplitl [Hdst]; · iexact Hdst
    isplitl [HO]; · iexact HO
    isplitl [Ht1]; · iexact Ht1
    isplitr; · iapply (reached_of m K (c, .inl (.inl s))); iexact HR
    isplitl [Ht2]; · iexact Ht2
    iapply (reached_of m K (nbr c (sDim s), .inl (.inr (sDst s)))); iexact HR
  iintro ⟨Hc, HO⟩
  ihave Hs := Hback $$ [Hc Hat]
  · unfold started
    isplitl [Hc]
    · iexact Hc
    iexact Hat
  ihave Hr := (result_idle m c (tSend s) fun p => (tSend_ne_tComp s p).symm) $$ Hr
  iapply h
  unfold St owing
  isplitr; · iexact HR
  isplitr; · iexact HL
  isplitl [HO]; · iexists W; iexact HO
  isplitl [Hk]; · iexact Hk
  isplitl [Hs]; · iexact Hs
  isplitl [Hr]; · iexact Hr
  isplitl [Hx]; · iexact Hx
  isplitl [Hw]; · iexact Hw
  iexact Hb

/-- The wait for a piece to arrive. -/
theorem step_recv {α : Type} {Q : α → sProp 𝕄} {n : ℕ} (key : Key) {sem : DmaSem sig} {sp sp' : Space} {s s' : Shape} {e e' : EltTy}
    {src : Memref sig .tc sp' s' e'} {dst : Memref sig .tc sp s e} {hsrc hdst}
    {k : PUnit → Prog (TpuEff nD τ sig (Elt F) Λ₀ .tc) α}
    (hn : tHave key = n) (hr : kR key ≠ 0) (h1 : sem = recvS key) (hN : dst.view.dmaCredit = amt key)
    (h : St m K c (n + 1) ⊢ wpc c (k ⟨⟩) Q) :
    St m K c n ⊢ wpc c (.op (.waitDma2 sem src dst hsrc hdst) k) Q := by
  subst hn h1
  unfold St owing
  iintro ⟨#HR, #HL, ⟨%W, HO⟩, Hk, Hs, Hr, Hx, Hw, Hb⟩
  ihave H := (keys_have m c key) $$ Hk
  unfold pend
  rw [if_neg hr]
  icases H with ⟨⟨Hat, Hc⟩, Hback⟩
  iapply (Rounds.wp_wait_rest_token 𝒱₀ ER (sched m) (c : Thread nD τ) none (κ := K (c, .inl (.inr key)))
      (wpE_waitDma2_eq 𝒱₀ (c : Thread nD τ) none Set.univ) (Set.mem_univ _) () (O := owed c (tHave key)) (W := W) (R := 0) (m := 0) (T := ∅)
      ((Nat.zero_add _).trans (hN.trans (expect_recv m c key hr).symm))) $$ [Hc HO Hat]
  · isplitr; · iapply (inv_of m K (c, .inl (.inr key))); iexact HR
    isplitl [Hc]; · rw [hN]; iexact Hc
    isplitl [HO]; · iexact HO
    isplitr; · iapply (mayWait_recv c key); iexact HL
    iexact Hat
  iintro ⟨HO, Hat, -, Hpay⟩
  ihave Hp := (Entails.of_eq (rest_recv m c key hr)) $$ Hpay
  imod (Rounds.cell_close ER (sched m) (Set.mem_univ (K (c, .inl (.inr key)))) (fun h => h) (R := 0 + 1) (duties_later m (recvCell c key))) $$ [Hat] with Hz
  · isplitr; · iapply (inv_of m K (c, .inl (.inr key))); iexact HR
    iexact Hat
  ihave Hk := Hback $$ [Hz Hp]
  · isplitl [Hz] <;> iassumption
  iapply h
  iapply (St_have m K c key rfl)
  unfold owing
  isplitr; · iexact HR
  isplitr; · iexact HL
  isplitl [HO]; · iexists _; iexact HO
  isplitl [Hk]; · iexact Hk
  isplitl [Hs]; · iexact Hs
  isplitl [Hr]; · iexact Hr
  isplitl [Hx]; · iexact Hx
  isplitl [Hw]; · iexact Hw
  iexact Hb

/-- The wait for a send to be done. -/
theorem step_wait {α : Type} {Q : α → sProp 𝕄} {n : ℕ} (t : Snd) {sem : DmaSem sig} {sp sp' : Space} {s s' : Shape} {e e' : EltTy}
    {src : Memref sig .tc sp' s' e'} {dst : Memref sig .tc sp s e} {hsrc hdst}
    {k : PUnit → Prog (TpuEff nD τ sig (Elt F) Λ₀ .tc) α}
    (hn : tWait t = n) (h1 : sem = sendS t) (hN : dst.view.dmaCredit = amt (sSrc t))
    (h : St m K c (n + 1) ⊢ wpc c (k ⟨⟩) Q) :
    St m K c n ⊢ wpc c (.op (.waitDma2 sem src dst hsrc hdst) k) Q := by
  subst hn h1
  unfold St owing
  iintro ⟨#HR, #HL, ⟨%W, HO⟩, Hk, Hs, Hr, Hx, Hw, Hb⟩
  ihave H := (sends_wait c t) $$ Hs
  unfold started
  icases H with ⟨⟨Hc, Hat⟩, Hback⟩
  iapply (Rounds.wp_wait_rest_token 𝒱₀ ER (sched m) (c : Thread nD τ) none (κ := K (c, .inl (.inl t)))
      (wpE_waitDma2_eq 𝒱₀ (c : Thread nD τ) none Set.univ) (Set.mem_univ _) () (O := owed c (tWait t)) (W := W) (R := 0) (m := 0) (T := ∅)
      ((Nat.zero_add _).trans (hN.trans (expect_send m c t).symm))) $$ [Hc HO Hat]
  · isplitr; · iapply (inv_of m K (c, .inl (.inl t))); iexact HR
    isplitl [Hc]; · rw [hN]; iexact Hc
    isplitl [HO]; · iexact HO
    isplitr; · iapply (mayWait_send c t); iexact HL
    iexact Hat
  iintro ⟨HO, Hat, -, Hpay⟩
  ihave Hp := (Entails.of_eq (rest_send m c t)) $$ Hpay
  imod (Rounds.cell_close ER (sched m) (Set.mem_univ (K (c, .inl (.inl t)))) (fun h => h) (R := 0 + 1) (duties_later m (sendCell c t))) $$ [Hat] with Hz
  · isplitr; · iapply (inv_of m K (c, .inl (.inl t))); iexact HR
    iexact Hat
  ihave Hk := (keys_wait m c t) $$ [Hk Hp]
  · isplitl [Hp] <;> iassumption
  ihave Hs := Hback $$ Hz
  ihave Hr := (result_idle m c (tWait t) fun p => (tWait_ne_tComp t p).symm) $$ Hr
  iapply h
  unfold St owing
  rw [owed_idle c (tWait t) fun s => tSend_ne_tWait s t]
  isplitr; · iexact HR
  isplitr; · iexact HL
  isplitl [HO]; · iexists _; iexact HO
  isplitl [Hk]; · iexact Hk
  isplitl [Hs]; · iexact Hs
  isplitl [Hr]; · iexact Hr
  isplitl [Hx]; · iexact Hx
  isplitl [Hw]; · iexact Hw
  iexact Hb

end Cert.KernelIdeal.Proof

end
-- ==== Proof.Values.lean ====
/-
What the loads of the body read, and what the blocks of the result hold, element by element.
-/
module

public import proofs.«01_k».proof.Proof.Steps2
public import Idealize.ShloMosaic.Lib.Pipeline.ValueKit.Geometry
public import Idealize.ShloMosaic.Lib.Pipeline.Value

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The values the loads read -/

/-- Rows `lo …` of device `d`'s rows, `n` of them. -/
def xRows (d : Fin 8) (lo n : ℕ) (h : lo + n ≤ 512) : (⟨2, ![n, 4096]⟩ : Shape).Idx → Elt F .bf16 := fun q =>
  xRow m d (lo + (q 0).val) (by have h' : (q 0).val < n := (q 0).isLt; omega) (q 1)

theorem read_x {lo n : ℕ} (h : lo + n ≤ 512) {hb} :
    xM.view.readAt (Elt F) (Rect.unit (s := S512x4096) ![lo, 0] ![n, 4096] hb).toLoadRect (xAt m c) = xRows m c lo n h := by
  funext q
  show xAt m c ((Rect.unit (s := S512x4096) ![lo, 0] ![n, 4096] hb).emb q) = xAt m c _
  refine congrArg (xAt m c) (funext fun a => Fin.ext ?_)
  rw [ValueKit.rect_emb_unit_val]
  match a with
  | ⟨0, _⟩ => rfl
  | ⟨1, _⟩ => exact Nat.zero_add _

/-- Own rows cast to a piece's shape are the piece. -/
theorem own_val (key : Key) (hr : kR key = 0) {n : ℕ} (hn : kLo key + n ≤ 512) {off : Fin S8x512x4096.rank → ℕ}
    {hb : ∀ a, off a + (![1, n, 4096] : Fin 3 → ℕ) a ≤ S8x512x4096.size a} (ho : off = ![(dev c (kR key)).val, kLo key, 0])
    (h₁ : (⟨2, ![n, 4096]⟩ : Shape).ShapeCasts ⟨2, ![n, 4096]⟩) (h₂ : (⟨2, ![n, 4096]⟩ : Shape).ShapeCasts ⟨3, ![1, n, 4096]⟩)
    (q : (⟨3, ![1, n, 4096]⟩ : Shape).Idx) :
    shapeCast ⟨3, ![1, n, 4096]⟩ (shapeCast ⟨2, ![n, 4096]⟩ (xRows m c (kLo key) n hn) h₁) h₂ q
      = gAt m c ((Rect.unit (s := S8x512x4096) off ![1, n, 4096] hb).emb q) := by
  subst ho
  rw [shapeCast_self]
  refine (shapeCast_addUnit_apply (n := 2) ![n, 4096] _ h₂ q).trans ?_
  show xAt m c _ = xAt m _ _
  have hq : (q 0).val = 0 := by have h' : (q 0).val < 1 := (q 0).isLt; omega
  have e0 : ((Rect.unit (s := S8x512x4096) ![(dev c (kR key)).val, kLo key, 0] ![1, n, 4096] hb).emb q 0 : Fin 8) = c := by
    apply Fin.ext
    rw [ValueKit.rect_emb_unit_val, hq, hr, dev_zero]; rfl
  rw [e0]
  refine congrArg (xAt m c) (funext fun a => Fin.ext ?_)
  match a with
  | ⟨0, _⟩ => exact (ValueKit.rect_emb_unit_val _ _ hb q 1).symm
  | ⟨1, _⟩ => exact ((ValueKit.rect_emb_unit_val _ _ hb q 2).trans (Nat.zero_add _)).symm

theorem gAt_emb {d : Fin 8} {lo n : ℕ} (hn : lo + n ≤ 512) {off : Fin S8x512x4096.rank → ℕ}
    {hb : ∀ a, off a + (![1, n, 4096] : Fin 3 → ℕ) a ≤ S8x512x4096.size a} (ho : off = ![d.val, lo, 0]) (q : (⟨3, ![1, n, 4096]⟩ : Shape).Idx)
    {ρ : ℕ} (hρ : ρ < 512) (he : ρ = lo + (q 1).val) :
    gAt m c ((Rect.unit (s := S8x512x4096) off ![1, n, 4096] hb).emb q) = xRow m d ρ hρ (q 2) := by
  subst ho he
  show xAt m _ _ = xAt m d _
  have hq : (q 0).val = 0 := by have h' : (q 0).val < 1 := (q 0).isLt; omega
  have e0 : ((Rect.unit (s := S8x512x4096) ![d.val, lo, 0] ![1, n, 4096] hb).emb q 0 : Fin 8) = d := by
    apply Fin.ext
    rw [ValueKit.rect_emb_unit_val, hq]; rfl
  rw [e0]
  refine congrArg (xAt m d) (funext fun a => Fin.ext ?_)
  match a with
  | ⟨0, _⟩ => exact ValueKit.rect_emb_unit_val _ _ hb q 1
  | ⟨1, _⟩ => exact (ValueKit.rect_emb_unit_val _ _ hb q 2).trans (Nat.zero_add _)

theorem read_176 {d : Fin 8} (j : Fin 2) {off : Fin S8x512x4096.rank → ℕ} {hb} (ho : off = ![d.val, 176 * j.val, 0]) :
    gM.view.readAt (Elt F) (Rect.unit (s := S8x512x4096) off ![1, 176, 4096] hb).toLoadRect (gAt m c) = rows176 m d j :=
  funext fun q => gAt_emb m c (n := 176) (by omega) ho q _ rfl
theorem read_160 {d : Fin 8} {off : Fin S8x512x4096.rank → ℕ} {hb} (ho : off = ![d.val, 352, 0]) :
    gM.view.readAt (Elt F) (Rect.unit (s := S8x512x4096) off ![1, 160, 4096] hb).toLoadRect (gAt m c) = rows160 m d :=
  funext fun q => gAt_emb m c (n := 160) (by omega) ho q _ rfl

/-! ## The blocks of the result -/

theorem outRow_176 {d : Fin 8} (j : Fin 2) (q : S176x256.Idx) {ρ : ℕ} (hρ : ρ < 512) (he : ρ = 176 * j.val + (q 0).val) :
    outRow m c d ρ hρ (q 1) = blk176 m c d j q := by
  have h0 : (q 0).val < 176 := (q 0).isLt
  have hlt : ρ < 352 := by omega
  unfold outRow
  rw [dif_pos hlt]
  have e1 : (⟨ρ / 176, by omega⟩ : Fin 2) = j := Fin.ext (by show ρ / 176 = j.val; omega)
  rw [e1]
  refine congrArg (blk176 m c d j) (funext fun a => Fin.ext ?_)
  match a with
  | ⟨0, _⟩ => show ρ % 176 = (q 0).val; omega
  | ⟨1, _⟩ => rfl
theorem outRow_160 {d : Fin 8} (q : S160x256.Idx) {ρ : ℕ} (hρ : ρ < 512) (he : ρ = 352 + (q 0).val) :
    outRow m c d ρ hρ (q 1) = blk160 m c d q := by
  unfold outRow
  rw [dif_neg (by omega)]
  refine congrArg (blk160 m c d) (funext fun a => Fin.ext ?_)
  match a with
  | ⟨0, _⟩ => show ρ - 352 = (q 0).val; omega
  | ⟨1, _⟩ => rfl

section Out
variable {d : Fin 8} {lo n : ℕ} {off : Fin S4096x256.rank → ℕ} {hb : ∀ a, off a + (![n, 256] : Fin 2 → ℕ) a ≤ S4096x256.size a}

theorem outAt_emb (hn : lo + n ≤ 512) (ho : off = ![512 * d.val + lo, 0]) (q : (⟨2, ![n, 256]⟩ : Shape).Idx) {ρ : ℕ} (hρ : ρ < 512) (he : ρ = lo + (q 0).val) :
    outAt m c ((Rect.unit (s := S4096x256) off ![n, 256] hb).emb q) = outRow m c d ρ hρ (q 1) := by
  subst ho he
  have h0 : (q 0).val < n := (q 0).isLt
  have e0 : ((Rect.unit (s := S4096x256) ![512 * d.val + lo, 0] ![n, 256] hb).emb q 0).val = 512 * d.val + lo + (q 0).val := ValueKit.rect_emb_unit_val _ _ hb q 0
  unfold outAt
  have e1 : (⟨((Rect.unit (s := S4096x256) ![512 * d.val + lo, 0] ![n, 256] hb).emb q 0).val / 512, by
      have h : ((Rect.unit (s := S4096x256) ![512 * d.val + lo, 0] ![n, 256] hb).emb q 0).val < 4096 := Fin.isLt _; omega⟩ : Fin 8) = d := Fin.ext (by
    show ((Rect.unit (s := S4096x256) ![512 * d.val + lo, 0] ![n, 256] hb).emb q 0).val / 512 = d.val; omega)
  have e2 : ((Rect.unit (s := S4096x256) ![512 * d.val + lo, 0] ![n, 256] hb).emb q 0).val % 512 = lo + (q 0).val := by omega
  have e3 : ((Rect.unit (s := S4096x256) ![512 * d.val + lo, 0] ![n, 256] hb).emb q 1 : Fin 256) = q 1 :=
    Fin.ext ((ValueKit.rect_emb_unit_val _ _ hb q 1).trans (Nat.zero_add _))
  rw [e1, e3]
  congr 1

theorem box_sub (p : Blk) (ho : off = ![512 * (dev c (bR p)).val + jLo (bJ p), 0]) (hn : n = jSz (bJ p)) :
    box c p ⊆ (Rect.unit (s := S4096x256) off ![n, 256] hb).set := by
  subst ho hn
  intro i hi
  rw [mem_box] at hi
  unfold bLo at hi
  rw [Rect.mem_set_unit]
  intro a
  match a with
  | ⟨0, _⟩ => exact hi
  | ⟨1, _⟩ =>
    have hb : (i 1).val < 256 := (i 1).isLt
    exact ⟨Nat.zero_le _, by show (i 1).val < 0 + 256; omega⟩
end Out

end Cert.KernelIdeal.Proof

end
-- ==== Proof.Moves.lean ====
/-
The steps of `Steps` and `Steps2` in the form the printed body meets them: the table entry named, its facts by evaluation.
-/
module

public import proofs.«01_k».proof.Proof.Values
public import Idealize.ShloMosaic.Lib.Pipeline.ValueKit.Geometry
public import Idealize.ShloMosaic.Lib.Pipeline.Value

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The printed offsets -/

/-- The rows of the device at relative label `r` from `c`, from row `lo`. -/
abbrev at3 (c : Dev nD) (r : Fin 8) (lo : ℕ) : Fin 3 → ℕ := ![(dev c r).val, lo, 0]
abbrev at2 (c : Dev nD) (r : Fin 8) (lo : ℕ) : Fin 2 → ℕ := ![512 * (dev c r).val + lo, 0]

theorem o1 : ∀ c : Dev nD, k0_off1 c = at3 c 0 0 := by decide +kernel
theorem o3 : ∀ c : Dev nD, k0_off3 c = at3 c 0 176 := by decide +kernel
theorem o5 : ∀ c : Dev nD, k0_off5 c = at3 c 0 352 := by decide +kernel
theorem o7 : ∀ c : Dev nD, k0_off7 c = at3 c 0 80 := by decide +kernel
theorem o9 : ∀ c : Dev nD, k0_off9 c = at3 c 0 256 := by decide +kernel
theorem o11 : ∀ c : Dev nD, k0_off11 c = at3 c 0 432 := by decide +kernel
theorem o2 : ∀ (c : Dev nD) (r : Fin 8), k0_off2 c (BitVec.ofNat 32 r.val) = at3 c r 0 := by decide +kernel
theorem o4 : ∀ (c : Dev nD) (r : Fin 8), k0_off4 c (BitVec.ofNat 32 r.val) = at3 c r 176 := by decide +kernel
theorem o6 : ∀ (c : Dev nD) (r : Fin 8), k0_off6 c (BitVec.ofNat 32 r.val) = at3 c r 352 := by decide +kernel
theorem o8 : ∀ (c : Dev nD) (r : Fin 8), k0_off8 c (BitVec.ofNat 32 r.val) = at3 c r 80 := by decide +kernel
theorem o10 : ∀ (c : Dev nD) (r : Fin 8), k0_off10 c (BitVec.ofNat 32 r.val) = at3 c r 256 := by decide +kernel
theorem o12 : ∀ (c : Dev nD) (r : Fin 8), k0_off12 c (BitVec.ofNat 32 r.val) = at3 c r 432 := by decide +kernel
theorem o13 : ∀ (c : Dev nD) (r : Fin 8), k0_off13 c (BitVec.ofNat 32 r.val) = at3 c r 0 := by decide +kernel
theorem o15 : ∀ (c : Dev nD) (r : Fin 8), k0_off15 c (BitVec.ofNat 32 r.val) = at3 c r 176 := by decide +kernel
theorem o16 : ∀ (c : Dev nD) (r : Fin 8), k0_off16 c (BitVec.ofNat 32 r.val) = at3 c r 352 := by decide +kernel
theorem o14 : ∀ (c : Dev nD) (r : Fin 8) (j : Fin 2), k0_off14 c (BitVec.ofNat 32 r.val) (BitVec.ofNat 32 (176 * j.val)) = at2 c r (176 * j.val) := by decide +kernel
theorem o17 : ∀ (c : Dev nD) (r : Fin 8), k0_off17 c (BitVec.ofNat 32 r.val) = at2 c r 352 := by decide +kernel

/-! ## The steps -/

/-- Transfer `s`: `step_send`, its device and its rows given as functions of the device and compared on every device. -/
theorem send {α : Type} {Q : α → sProp 𝕄} {n : ℕ} (s : Snd) {f : Dev nD → ℕ} {hf : ∀ c, f c < nD} {off : Fin S8x512x4096.rank → ℕ}
    {sz : Fin S8x512x4096.rank → ℕ} {hb : ∀ a, off a + sz a ≤ S8x512x4096.size a} {s' : Shape} {hc}
    {hq : (Rect.unit (s := S8x512x4096) off sz hb).shape.Squeezes s'} {sem₁ sem₂ : SemLoc sig} {hsc hsrc hdst hsem}
    {k : PUnit → Prog (TpuEff nD τ sig (Elt F) Λ₀ .tc) α}
    (ho : off = ![(dev c (kR (sSrc s))).val, kLo (sSrc s), 0])
    (h : St m K c (n + 1) ⊢ wpc c (k ⟨⟩) Q)
    (hd : ∀ c, f c = (nbr c (sDim s)).val := by decide +kernel)
    (hn : tSend s = n := by rfl) (h1 : sem₁ = .dma (sendS s) := by rfl) (h2 : sem₂ = .dma (recvS (sDst s)) := by rfl)
    (hs : sz = ![1, kSz (sSrc s), 4096] := by rfl)
    (hN : ((gM.slice (Rect.unit (s := S8x512x4096) off sz hb) hc).squeeze s' hq).view.amount sem₂ = amt (sSrc s) := by rfl) :
    St m K c n ⊢ wpc c (.op (.enqueueDma ((gM.slice (Rect.unit (s := S8x512x4096) off sz hb) hc).squeeze s' hq)
      (.remote (Dev.tc (⟨f c, hf c⟩ : Dev nD) : Thread nD τ) ((gM.slice (Rect.unit (s := S8x512x4096) off sz hb) hc).squeeze s' hq) sem₁ hsc) sem₂ hsrc hdst hsem) k) Q :=
  step_send m K c s hn (Fin.ext (hd c)) h1 h2 (ho) hs hN h

/-- The wait for piece `key`. -/
theorem recv {α : Type} {Q : α → sProp 𝕄} {n : ℕ} (key : Key) {sem : DmaSem sig} {sp sp' : Space} {s s' : Shape} {e e' : EltTy}
    {src : Memref sig .tc sp' s' e'} {dst : Memref sig .tc sp s e} {hsrc hdst} {k : PUnit → Prog (TpuEff nD τ sig (Elt F) Λ₀ .tc) α}
    (h : St m K c (n + 1) ⊢ wpc c (k ⟨⟩) Q)
    (hn : tHave key = n := by rfl) (hr : kR key ≠ 0 := by decide +kernel) (h1 : sem = recvS key := by rfl) (hN : dst.view.dmaCredit = amt key := by rfl) :
    St m K c n ⊢ wpc c (.op (.waitDma2 sem src dst hsrc hdst) k) Q := step_recv m K c key hn hr h1 hN h

/-- The wait for the send of transfer `t`. -/
theorem sent {α : Type} {Q : α → sProp 𝕄} {n : ℕ} (t : Snd) {sem : DmaSem sig} {sp sp' : Space} {s s' : Shape} {e e' : EltTy}
    {src : Memref sig .tc sp' s' e'} {dst : Memref sig .tc sp s e} {hsrc hdst} {k : PUnit → Prog (TpuEff nD τ sig (Elt F) Λ₀ .tc) α}
    (h : St m K c (n + 1) ⊢ wpc c (k ⟨⟩) Q)
    (hn : tWait t = n := by rfl) (h1 : sem = sendS t := by rfl) (hN : dst.view.dmaCredit = amt (sSrc t) := by rfl) :
    St m K c n ⊢ wpc c (.op (.waitDma2 sem src dst hsrc hdst) k) Q := step_wait m K c t hn h1 hN h

/-- A load of own rows, `n'` of them from row `lo`. -/
theorem loadX {α : Type} {Q : α → sProp 𝕄} {n : ℕ} {lo n' : ℕ} (hh : lo + n' ≤ 512) {hb} {hl : xM.view.LoadsAt (Rect.unit (s := S512x4096) ![lo, 0] ![n', 4096] hb).toLoadRect}
    {k : ((⟨2, ![n', 4096]⟩ : Shape).Idx → Elt F .bf16) → Prog (TpuEff nD τ sig (Elt F) Λ₀ .tc) α}
    (h : St m K c n ⊢ wpc c (k (xRows m c lo n' hh)) Q) :
    St m K c n ⊢ wpc c (.op (.load xM (Rect.unit (s := S512x4096) ![lo, 0] ![n', 4096] hb).toLoadRect hl) k) Q :=
  step_loadX m K c (by rw [read_x m c hh]; exact h)

/-- The load of the columns of the second matrix. -/
theorem loadW {α : Type} {Q : α → sProp 𝕄} {n : ℕ} {hb} {hl : wM.view.LoadsAt (Rect.unit (s := S4096x256) ![0, 0] S4096x256.size hb).toLoadRect}
    {k : (S4096x256.Idx → Elt F .bf16) → Prog (TpuEff nD τ sig (Elt F) Λ₀ .tc) α}
    (h : St m K c n ⊢ wpc c (k (wAt m c)) Q) :
    St m K c n ⊢ wpc c (.op (.load wM (Rect.unit (s := S4096x256) ![0, 0] S4096x256.size hb).toLoadRect hl) k) Q :=
  step_loadW m K c (by
    have e := Memref.readAt_unit_zero (Elt F) cc0_stg1_0 (off := ![0, 0]) (by funext a; match a with | ⟨0, _⟩ => rfl | ⟨1, _⟩ => rfl) hb (wAt m c)
    exact (congrArg (fun v => wpc c (k v) Q) e) ▸ h)

/-- The load of the room of own piece `key`. -/
theorem loadRoom {α : Type} {Q : α → sProp 𝕄} {n : ℕ} (key : Key) {off : Fin S8x512x4096.rank → ℕ}
    {sz : Fin S8x512x4096.rank → ℕ} {hb : ∀ a, off a + sz a ≤ S8x512x4096.size a}
    {hl : gM.view.LoadsAt (Rect.unit (s := S8x512x4096) off sz hb).toLoadRect}
    {k : ((Rect.unit (s := S8x512x4096) off sz hb).toLoadRect.shape.Idx → Elt F .bf16) → Prog (TpuEff nD τ sig (Elt F) Λ₀ .tc) α}
    (ho : off = ![(dev c (kR key)).val, kLo key, 0])
    (h : ∀ v, St m K c n ⊢ wpc c (k v) Q)
    (hn : tHave key = n := by rfl) (hr : kR key = 0 := by decide +kernel) (hs : sz = ![1, kSz key, 4096] := by rfl) :
    St m K c n ⊢ wpc c (.op (.load gM (Rect.unit (s := S8x512x4096) off sz hb).toLoadRect hl) k) Q :=
  step_loadRoom m K c key hn hr (ho) hs h

/-- The store of own piece `key`, `n'` rows. -/
theorem storeG {α : Type} {Q : α → sProp 𝕄} {n : ℕ} (key : Key) {n' : ℕ} (hh : kLo key + n' ≤ 512) {off : Fin S8x512x4096.rank → ℕ}
    {hb : ∀ a, off a + (![1, n', 4096] : Fin 3 → ℕ) a ≤ S8x512x4096.size a}
    (h₁ : (⟨2, ![n', 4096]⟩ : Shape).ShapeCasts ⟨2, ![n', 4096]⟩) (h₂ : (⟨2, ![n', 4096]⟩ : Shape).ShapeCasts ⟨3, ![1, n', 4096]⟩)
    {hx : ((gM).access (Rect.unit (s := S8x512x4096) off ![1, n', 4096] hb)).Stores Finset.univ} {hm}
    {k : PUnit → Prog (TpuEff nD τ sig (Elt F) Λ₀ .tc) α}
    (ho : off = ![(dev c (kR key)).val, kLo key, 0])
    (h : St m K c (n + 1) ⊢ wpc c (k ⟨⟩) Q)
    (hn : tHave key = n := by rfl) (hr : kR key = 0 := by decide +kernel) (hs : n' = kSz key := by rfl) :
    St m K c n ⊢ wpc c (.op (.store gM (Rect.unit (s := S8x512x4096) off ![1, n', 4096] hb)
      (shapeCast ⟨3, ![1, n', 4096]⟩ (shapeCast ⟨2, ![n', 4096]⟩ (xRows m c (kLo key) n' hh) h₁) h₂) Finset.univ hx hm) k) Q :=
  step_storeG m K c key hn hr (ho) (by rw [hs]) (own_val m c key hr hh (ho) h₁ h₂) h

/-- The load of the rows of block `p`, a third of 176 rows; -/
theorem load176 {α : Type} {Q : α → sProp 𝕄} {n : ℕ} (p : Blk) (j : Fin 2) {off : Fin S8x512x4096.rank → ℕ}
    {hb : ∀ a, off a + (![1, 176, 4096] : Fin 3 → ℕ) a ≤ S8x512x4096.size a}
    {hl : gM.view.LoadsAt (Rect.unit (s := S8x512x4096) off ![1, 176, 4096] hb).toLoadRect}
    {k : (S1x176x4096.Idx → Elt F .bf16) → Prog (TpuEff nD τ sig (Elt F) Λ₀ .tc) α}
    (ho : off = ![(dev c (bR p)).val, jLo (bJ p), 0])
    (h : St m K c n ⊢ wpc c (k (rows176 m (dev c (bR p)) j)) Q)
    (h0 : tHave (bKey p 0) < n := by decide) (h1 : tHave (bKey p 1) < n := by decide) (hj : (bJ p).val = j.val := by rfl) :
    St m K c n ⊢ wpc c (.op (.load gM (Rect.unit (s := S8x512x4096) off ![1, 176, 4096] hb).toLoadRect hl) k) Q :=
  step_loadG m K c p h0 h1 (ho) (by rw [show jSz (bJ p) = 176 by unfold jSz; rw [hj]; fin_cases j <;> rfl])
    (by rw [read_176 m c j ((ho).trans (by rw [show jLo (bJ p) = 176 * j.val by unfold jLo; rw [hj]]))]; exact h)
/-- of 160 rows. -/
theorem load160 {α : Type} {Q : α → sProp 𝕄} {n : ℕ} (p : Blk) {off : Fin S8x512x4096.rank → ℕ}
    {hb : ∀ a, off a + (![1, 160, 4096] : Fin 3 → ℕ) a ≤ S8x512x4096.size a}
    {hl : gM.view.LoadsAt (Rect.unit (s := S8x512x4096) off ![1, 160, 4096] hb).toLoadRect}
    {k : (S1x160x4096.Idx → Elt F .bf16) → Prog (TpuEff nD τ sig (Elt F) Λ₀ .tc) α}
    (ho : off = ![(dev c (bR p)).val, jLo (bJ p), 0])
    (h : St m K c n ⊢ wpc c (k (rows160 m (dev c (bR p)))) Q)
    (h0 : tHave (bKey p 0) < n := by decide) (h1 : tHave (bKey p 1) < n := by decide) (hj : (bJ p).val = 2 := by rfl) :
    St m K c n ⊢ wpc c (.op (.load gM (Rect.unit (s := S8x512x4096) off ![1, 160, 4096] hb).toLoadRect hl) k) Q :=
  step_loadG m K c p h0 h1 (ho) (by rw [show jSz (bJ p) = 160 by unfold jSz; rw [hj]; rfl])
    (by rw [read_160 m c ((ho).trans (by rw [show jLo (bJ p) = 352 by unfold jLo; rw [hj]]))]; exact h)

/-- The load of a block's place in the result. -/
theorem loadO {α : Type} {Q : α → sProp 𝕄} {n : ℕ} {r : Rect S4096x256} {hl : oM.view.LoadsAt r.toLoadRect} {k : (r.toLoadRect.shape.Idx → Elt F .f32) → Prog (TpuEff nD τ sig (Elt F) Λ₀ .tc) α}
    (h : ∀ v, St m K c n ⊢ wpc c (k v) Q) :
    St m K c n ⊢ wpc c (.op (.load oM r.toLoadRect hl) k) Q := step_loadO m K c h

/-- The store of block `p`, a third of 176 rows; -/
theorem store176 {α : Type} {Q : α → sProp 𝕄} {n : ℕ} (p : Blk) (j : Fin 2) {off : Fin S4096x256.rank → ℕ}
    {hb : ∀ a, off a + (![176, 256] : Fin 2 → ℕ) a ≤ S4096x256.size a} {w : S176x256.Idx → Elt F .f32}
    {hx : ((oM).access (Rect.unit (s := S4096x256) off ![176, 256] hb)).Stores Finset.univ} {hm}
    {k : PUnit → Prog (TpuEff nD τ sig (Elt F) Λ₀ .tc) α}
    (ho : off = ![512 * (dev c (bR p)).val + jLo (bJ p), 0])
    (h : St m K c (n + 1) ⊢ wpc c (k ⟨⟩) Q)
    (hn : tComp p = n := by rfl) (hj : (bJ p).val = j.val := by rfl) (hw : w = blk176 m c (dev c (bR p)) j := by rfl) :
    St m K c n ⊢ wpc c (.op (.store oM (Rect.unit (s := S4096x256) off ![176, 256] hb) w Finset.univ hx hm) k) Q := by
  have hl : jLo (bJ p) = 176 * j.val := by unfold jLo; rw [hj]
  refine step_storeO m K c p hn (box_sub c p (ho) (by unfold jSz; rw [hj]; fin_cases j <;> rfl)) (fun q => ?_) h
  have hq : (q 0).val < 176 := (q 0).isLt
  rw [hw, outAt_emb m c (n := 176) (lo := 176 * j.val) (d := dev c (bR p)) (by omega) ((ho).trans (by rw [hl])) q (ρ := 176 * j.val + (q 0).val) (by omega) rfl]
  exact (outRow_176 m c j q (by omega) rfl).symm
/-- of 160 rows. -/
theorem store160 {α : Type} {Q : α → sProp 𝕄} {n : ℕ} (p : Blk) {off : Fin S4096x256.rank → ℕ}
    {hb : ∀ a, off a + (![160, 256] : Fin 2 → ℕ) a ≤ S4096x256.size a} {w : S160x256.Idx → Elt F .f32}
    {hx : ((oM).access (Rect.unit (s := S4096x256) off ![160, 256] hb)).Stores Finset.univ} {hm}
    {k : PUnit → Prog (TpuEff nD τ sig (Elt F) Λ₀ .tc) α}
    (ho : off = ![512 * (dev c (bR p)).val + jLo (bJ p), 0])
    (h : St m K c (n + 1) ⊢ wpc c (k ⟨⟩) Q)
    (hn : tComp p = n := by rfl) (hj : (bJ p).val = 2 := by rfl) (hw : w = blk160 m c (dev c (bR p)) := by rfl) :
    St m K c n ⊢ wpc c (.op (.store oM (Rect.unit (s := S4096x256) off ![160, 256] hb) w Finset.univ hx hm) k) Q := by
  have hl : jLo (bJ p) = 352 := by unfold jLo; rw [hj]
  refine step_storeO m K c p hn (box_sub c p (ho) (by unfold jSz; rw [hj]; rfl)) (fun q => ?_) h
  have hq : (q 0).val < 160 := (q 0).isLt
  rw [hw, outAt_emb m c (n := 160) (lo := 352) (d := dev c (bR p)) (by omega) ((ho).trans (by rw [hl])) q (ρ := 352 + (q 0).val) (by omega) rfl]
  exact (outRow_160 m c q (by omega) rfl).symm

end Cert.KernelIdeal.Proof

end
-- ==== Proof.Entry.lean ====
/-
The entry of the body: the three signals, the barrier wait that brings the neighbours' rooms, the first own piece.
-/
module

public import proofs.«01_k».proof.Proof.Moves

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- What device `c` holds of a transfer before the barrier: everything but the room it writes. -/
def unready (c : Dev nD) (s : Snd) : sProp 𝕄 :=
  iprop(dutyTok ER (sendCell c s) 0 0 ∗ dutyTok ER (recvCell (nbr c (sDim s)) (sDst s)) 0 0 ∗ atPos ER (sendCell c s) 0 ∅ 0)
/-- The duty of a signal across dimension `d`: its token, and what it lends. -/
def sig1 (c : Dev nD) (d : Fin 3) : sProp 𝕄 := iprop(dutyTok ER (barCell (nbr c d)) 0 d ∗ lent c d)
/-- What device `c` holds at entry, besides the signals' duties. -/
def rest0 (c : Dev nD) : sProp 𝕄 :=
  iprop(atPos ER (barCell c) 0 ∅ 0 ∗ cred (tallyAt (barCell c) () 3) ∗ keys m c 0 ∗ (bigSep Finset.univ fun s => unready (F := F) c s)
    ∗ result m c 0 ∗ xHeld m c ∗ wHeld m c)
/-- At entry; -/
def Ent (K : Dev nD × Cell → ℕ) (c : Dev nD) : sProp 𝕄 :=
  iprop(records m K ∗ levAts L lv ∗ (∃ W, owes (c : Thread nD τ) (owed₀ c) W) ∗ sig1 c 0 ∗ sig1 c 1 ∗ sig1 c 2 ∗ rest0 m c)
/-- two signals later. -/
def Ent2 (K : Dev nD × Cell → ℕ) (c : Dev nD) : sProp 𝕄 :=
  iprop(records m K ∗ levAts L lv ∗ (∃ W, owes (c : Thread nD τ) (owed₂ c) W) ∗ sig1 c 2 ∗ rest0 m c)

/-- The signal across dimension `d`. -/
theorem step_signal {α : Type} {Q : α → sProp 𝕄} (d : Fin 3) {e : Dev nD} (he : e = nbr c d) {O O' : CellTallies nD τ sig Unit}
    (hO : O = O' + tallyAt (barCell (nbr c d)) () 1) {W : Waits sig Unit} {k : PUnit → Prog (TpuEff nD τ sig (Elt F) Λ₀ .tc) α} :
    iprop(records m K ∗ owes (c : Thread nD τ) O W ∗ sig1 c d)
      ⊢ iprop((owes (c : Thread nD τ) O' W -∗ wpc c (k ⟨⟩) Q) -∗ wpc c (.op (.semSignal (e : Thread nD τ) barS 1) k) Q) := by
  subst he
  unfold sig1
  iintro ⟨#HR, HO, Ht, Hl⟩ Hk
  iapply (Rounds.wp_signal 𝒱₀ ER (sched m) (c : Thread nD τ) none (dst := (nbr c d : Thread nD τ)) (κ := K (nbr c d, .inr ())) (d := d)
      (by rw [duties_bar]; exact Finset.mem_univ _) (amount_cell m (nbr c d) (.inr ()) d) () O' hO) $$ [HO Ht Hl]
  · isplitr; · iapply (inv_of m K (nbr c d, .inr ())); iexact HR
    isplitl [HO]; · iexact HO
    isplitl [Ht]; · iexact Ht
    isplitl [Hl]
    · iapply (Entails.of_eq (show (sched m).payload ((nbr c d : Thread nD τ), .reg barS) 0 d = lent (F := F) c d from
        (payload_cell m (nbr c d) (.inr ()) d).trans (congrArg (fun a => lent (F := F) a d) (nbr_nbr c d))).symm); iexact Hl
    iapply (reached_of m K (nbr c d, .inr ())); iexact HR
  iexact Hk

theorem ready_intro (s : Snd) : iprop(room (F := F) (nbr c (sDim s)) (sDst s) ∗ unready (F := F) c s) ⊢ sendAt (F := F) c 0 s := by
  unfold sendAt ready unready
  rw [if_pos (Nat.zero_le _)]
  iintro ⟨Hr, H1, H2, H3⟩
  isplitl [H1]; · iexact H1
  isplitl [H2]; · iexact H2
  isplitl [H3] <;> iassumption

/-- What the barrier brings, with the rest of each transfer: all transfers ready. -/
theorem sends_intro : iprop((bigSep Finset.univ fun d : Fin 3 => lent (F := F) (nbr c d) d) ∗ bigSep Finset.univ fun s : Snd => unready (F := F) c s)
    ⊢ sends (F := F) c 0 := by
  have h1 : (bigSep Finset.univ fun d : Fin 3 => lent (F := F) (nbr c d) d) = bigSep Finset.univ fun s : Snd => room (F := F) (nbr c (sDim s)) (sDst s) := by
    unfold lent
    rw [BI.bigSep_univ_comm]
    refine bigSep_congr fun s _ => ?_
    rw [bigSep_univ_at _ (sDim s), if_pos rfl, bigSep_congr (Ψ := fun _ => iprop(emp)) fun d hd => if_neg fun h => (Finset.mem_erase.mp hd).1 h.symm]
    exact (congrArg (fun P : sProp 𝕄 => iprop(room (F := F) (nbr c (sDim s)) (sDst s) ∗ P)) (BI.bigSep_emp_const _)).trans (equiv_iff.mp BI.sep_emp)
  rw [h1, ← bigSep_sep']
  unfold sends
  exact bigSep_mono fun s _ => ready_intro c s
/-- The barrier wait. -/
theorem step_barrier {α : Type} {Q : α → sProp 𝕄} {k : PUnit → Prog (TpuEff nD τ sig (Elt F) Λ₀ .tc) α} (h : St m K c 0 ⊢ wpc c (k ⟨⟩) Q) {W : Waits sig Unit} :
    iprop(records m K ∗ levAts L lv ∗ owes (c : Thread nD τ) (owed c 0) W ∗ rest0 m c) ⊢ wpc c (.op (.semWait barS 3) k) Q := by
  unfold rest0
  iintro ⟨#HR, #HL, HO, Hat, Hc, Hk, Hs, Hr, Hx, Hw⟩
  iapply (Rounds.wp_wait_rest_token 𝒱₀ ER (sched m) (c : Thread nD τ) none (κ := K (c, .inr ()))
      (wpE_semWait_eq 𝒱₀ (c : Thread nD τ) none Set.univ) (Set.mem_univ _) () (O := owed c 0) (W := W) (R := 0) (m := 0) (T := ∅)
      (by rw [expect_bar])) $$ [Hc HO Hat]
  · isplitr; · iapply (inv_of m K (c, .inr ())); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (sched m) (Set.mem_univ (K (c, .inr ()))) (fun h => h) (R := 0 + 1) (duties_later m (barCell c))) $$ [Hat] with Hz
  · isplitr; · iapply (inv_of m K (c, .inr ())); iexact HR
    iexact Hat
  ihave Hs := (sends_intro (F := F) c) $$ [Hp Hs]
  · isplitl [Hp] <;> iassumption
  iapply h
  unfold St owing
  isplitr; · iexact HR
  isplitr; · iexact HL
  isplitl [HO]; · iexists _; iexact HO
  isplitl [Hk]; · iexact Hk
  isplitl [Hs]; · iexact Hs
  isplitl [Hr]; · iexact Hr
  isplitl [Hx]; · iexact Hx
  isplitl [Hw]; · iexact Hw
  iexact Hz

theorem dev1_eq : (⟨k0_dev1 c, k0_dev1_lt c⟩ : Dev nD) = nbr c 0 := by revert c; decide +kernel
theorem dev2_eq : (⟨k0_dev2 c, k0_dev2_lt c⟩ : Dev nD) = nbr c 1 := by revert c; decide +kernel
theorem dev3_eq : (⟨k0_dev3 c, k0_dev3_lt c⟩ : Dev nD) = nbr c 2 := by revert c; decide +kernel

theorem part1 {α : Type} {Q : α → sProp 𝕄} {k} (h : ∀ a b e, Ent2 m K c ⊢ wpc c (k ⟨c, a, b, SemArray.scalar (sig.barrier 0 rfl), e⟩) Q) :
    Ent m K c ⊢ wpc c (k0_part1 (F := F) xM (Memref.isWhole_whole _) wM (Memref.isWhole_whole _) oM (Memref.isWhole_whole _) gM (Memref.isWhole_whole _) cc0_scratch1 cc0_scratch2 >>= k) Q := by
  rw [k0_part1_eq_skeleton]; unfold k0_part1_skel
  simp only [semSignalWord, semWaitWord, Prog.lift, Prog.bind_op, Prog.bind_ret, Prog.pure_eq_ret, wp_deviceId]
  unfold Ent
  iintro ⟨#HR, #HL, ⟨%W, HO⟩, H0, H1, H2, Hrest⟩
  iapply (step_signal m K c 0 (dev1_eq c) (O := owed₀ c) (O' := owed₁ c) rfl) $$ [HO H0]
  · isplitr; · iexact HR
    isplitl [HO] <;> iassumption
  iintro HO
  iapply (step_signal m K c 1 (dev2_eq c) (O := owed₁ c) (O' := owed₂ c) rfl) $$ [HO H1]
  · isplitr; · iexact HR
    isplitl [HO] <;> iassumption
  iintro HO
  iapply (h _ _ _)
  unfold Ent2
  isplitr; · iexact HR
  isplitr; · iexact HL
  isplitl [HO]; · iexists _; iexact HO
  isplitl [H2] <;> iassumption

theorem part2 {α : Type} {Q : α → sProp 𝕄} (a0 a1 a2) {k} (h : ∀ r, St m K c 2 ⊢ wpc c (k r) Q) :
    Ent2 m K c ⊢ wpc c (k0_part2 (F := F) xM (Memref.isWhole_whole _) wM (Memref.isWhole_whole _) oM (Memref.isWhole_whole _) gM (Memref.isWhole_whole _) cc0_scratch1 cc0_scratch2 c a0 a1 (SemArray.scalar (sig.barrier 0 rfl)) a2 >>= k) Q := by
  rw [k0_part2_eq_skeleton]; unfold k0_part2_skel
  simp only [semSignalWord, semWaitWord, Prog.lift, Prog.bind_op, Prog.bind_ret, Prog.pure_eq_ret]
  unfold Ent2
  iintro ⟨#HR, #HL, ⟨%W, HO⟩, H2, Hrest⟩
  iapply (step_signal m K c 2 (dev3_eq c) (O := owed₂ c) (O' := owed c 0) rfl) $$ [HO H2]
  · isplitr; · iexact HR
    isplitl [HO] <;> iassumption
  iintro HO
  iapply (step_barrier m K c (loadX m K c (by omega) (loadRoom m K c 0 (o1 c) fun _ => storeG m K c 0 (by decide) (by decide) (by decide) (o1 c) (send m K c 0 (o2 c 0) (h _))))) $$ [HO Hrest]
  isplitr; · iexact HR
  isplitr; · iexact HL
  isplitl [HO] <;> iassumption

end Cert.KernelIdeal.Proof

end
-- ==== Proof.PartsA.lean ====
/-
Parts 3 to 22 of the body: own pieces, the first hop of the forwarding, the first blocks. Each theorem carries the state of one device over one part.
-/
module

public import proofs.«01_k».proof.Proof.Moves

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

theorem part3 {α : Type} {Q : α → sProp 𝕄} (a0 a1) {k} (h : St m K c 4 ⊢ wpc c (k (k0_pay3 (xRows m c 352 80 (by omega)))) Q) :
    St m K c 2 ⊢ wpc c (k0_part3 (F := F) xM (Memref.isWhole_whole _) wM (Memref.isWhole_whole _) oM (Memref.isWhole_whole _) gM (Memref.isWhole_whole _) cc0_scratch1 cc0_scratch2 c a0 a1 >>= k) Q := by
  rw [k0_part3_eq_skeleton]; unfold k0_part3_skel
  simp only [Prog.lift, Prog.bind_op, Prog.bind_ret, Prog.pure_eq_ret]
  exact loadX m K c (by omega) (loadRoom m K c 16 (o3 c) fun _ => storeG m K c 16 (by decide) (by decide) (by decide) (o3 c) (send m K c 1 (o4 c 0) (loadX m K c (by omega) (loadRoom m K c 32 (o5 c) fun _ => h))))

theorem part4 {α : Type} {Q : α → sProp 𝕄} (a0 a1) {k} (h : ∀ r, St m K c 7 ⊢ wpc c (k r) Q) :
    St m K c 4 ⊢ wpc c (k0_part4 (F := F) xM (Memref.isWhole_whole _) wM (Memref.isWhole_whole _) oM (Memref.isWhole_whole _) gM (Memref.isWhole_whole _) cc0_scratch1 cc0_scratch2 c a0 a1 (k0_pay3 (xRows m c 352 80 (by omega))) >>= k) Q := by
  rw [k0_part4_eq_skeleton]; unfold k0_part4_skel
  simp only [Prog.lift, Prog.bind_op, Prog.bind_ret, Prog.pure_eq_ret]
  exact storeG m K c 32 (by decide) (by decide) (by decide) (o5 c) (send m K c 2 (o6 c 0) (loadX m K c (by omega) (loadRoom m K c 8 (o7 c) fun _ => storeG m K c 8 (by decide) (by decide) (by decide) (o7 c) (h _))))

theorem part5 {α : Type} {Q : α → sProp 𝕄} (a0 a1 a2 a3 a4) {k} (h : ∀ r, St m K c 9 ⊢ wpc c (k r) Q) :
    St m K c 7 ⊢ wpc c (k0_part5 (F := F) xM (Memref.isWhole_whole _) wM (Memref.isWhole_whole _) oM (Memref.isWhole_whole _) gM (Memref.isWhole_whole _) cc0_scratch1 cc0_scratch2 c a0 a1 a2 a3 a4 >>= k) Q := by
  rw [k0_part5_eq_skeleton]; unfold k0_part5_skel
  simp only [Prog.lift, Prog.bind_op, Prog.bind_ret, Prog.pure_eq_ret]
  exact send m K c 3 (o8 c 0) (loadX m K c (by omega) (loadRoom m K c 24 (o9 c) fun _ => storeG m K c 24 (by decide) (by decide) (by decide) (o9 c) (h _)))

theorem part6 {α : Type} {Q : α → sProp 𝕄} (a0 a1 a2 a3 a4) {k} (h : ∀ r, St m K c 11 ⊢ wpc c (k r) Q) :
    St m K c 9 ⊢ wpc c (k0_part6 (F := F) xM (Memref.isWhole_whole _) wM (Memref.isWhole_whole _) oM (Memref.isWhole_whole _) gM (Memref.isWhole_whole _) cc0_scratch1 cc0_scratch2 c a0 a1 a2 a3 a4 >>= k) Q := by
  rw [k0_part6_eq_skeleton]; unfold k0_part6_skel
  simp only [Prog.lift, Prog.bind_op, Prog.bind_ret, Prog.pure_eq_ret]
  exact send m K c 4 (o10 c 0) (loadX m K c (by omega) (loadRoom m K c 40 (o11 c) fun _ => storeG m K c 40 (by decide) (by decide) (by decide) (o11 c) (h _)))

theorem part7 {α : Type} {Q : α → sProp 𝕄} (a0 a1) {k} (h : ∀ r, St m K c 12 ⊢ wpc c (k ⟨(k0_pay7 (wAt m c)), (k0_pay8 (wAt m c) (rows176 m (dev c 0) 0)), r⟩) Q) :
    St m K c 11 ⊢ wpc c (k0_part7 (F := F) xM (Memref.isWhole_whole _) wM (Memref.isWhole_whole _) oM (Memref.isWhole_whole _) gM (Memref.isWhole_whole _) cc0_scratch1 cc0_scratch2 c a0 a1 >>= k) Q := by
  rw [k0_part7_eq_skeleton]; unfold k0_part7_skel
  simp only [Prog.lift, Prog.bind_op, Prog.bind_ret, Prog.pure_eq_ret]
  exact send m K c 5 (o12 c 0) (loadW m K c (load176 m K c 0 0 (o13 c 0) (h _)))

theorem part8 {α : Type} {Q : α → sProp 𝕄} (a0 a1) {k} (h : ∀ r, St m K c 14 ⊢ wpc c (k ⟨r, (rows160 m (dev c 0))⟩) Q) :
    St m K c 12 ⊢ wpc c (k0_part8 (F := F) xM (Memref.isWhole_whole _) wM (Memref.isWhole_whole _) oM (Memref.isWhole_whole _) gM (Memref.isWhole_whole _) cc0_scratch1 cc0_scratch2 c a0 (k0_pay7 (wAt m c)) (k0_pay8 (wAt m c) (rows176 m (dev c 0) 0)) a1 >>= k) Q := by
  rw [k0_part8_eq_skeleton]; unfold k0_part8_skel
  simp only [Prog.lift, Prog.bind_op, Prog.bind_ret, Prog.pure_eq_ret]
  exact loadO m K c fun _ => store176 m K c 0 0 (o14 c 0 0) (load176 m K c 8 1 (o15 c 0) (loadO m K c fun _ => store176 m K c 8 1 (o14 c 0 1) (load160 m K c 16 (o16 c 0) (h _))))

theorem part9 {α : Type} {Q : α → sProp 𝕄} (a0 a1 a2) {k} (h : ∀ r, St m K c 16 ⊢ wpc c (k r) Q) :
    St m K c 14 ⊢ wpc c (k0_part9 (F := F) xM (Memref.isWhole_whole _) wM (Memref.isWhole_whole _) oM (Memref.isWhole_whole _) gM (Memref.isWhole_whole _) cc0_scratch1 cc0_scratch2 c a0 a1 (k0_pay7 (wAt m c)) a2 (rows160 m (dev c 0)) >>= k) Q := by
  rw [k0_part9_eq_skeleton]; unfold k0_part9_skel
  simp only [Prog.lift, Prog.bind_op, Prog.bind_ret, Prog.pure_eq_ret]
  exact loadO m K c fun _ => store160 m K c 16 (o17 c 0) (recv m K c 1 (h _))

theorem part10 {α : Type} {Q : α → sProp 𝕄} (a0 a1 a2) {k} (h : ∀ r, St m K c 17 ⊢ wpc c (k r) Q) :
    St m K c 16 ⊢ wpc c (k0_part10 (F := F) xM (Memref.isWhole_whole _) wM (Memref.isWhole_whole _) oM (Memref.isWhole_whole _) gM (Memref.isWhole_whole _) cc0_scratch1 cc0_scratch2 c a0 a1 a2 >>= k) Q := by
  rw [k0_part10_eq_skeleton]; unfold k0_part10_skel
  simp only [Prog.lift, Prog.bind_op, Prog.bind_ret, Prog.pure_eq_ret]
  exact send m K c 6 (o2 c 1) (h _)

theorem part11 {α : Type} {Q : α → sProp 𝕄} (a0 a1 a2) {k} (h : ∀ r, St m K c 19 ⊢ wpc c (k r) Q) :
    St m K c 17 ⊢ wpc c (k0_part11 (F := F) xM (Memref.isWhole_whole _) wM (Memref.isWhole_whole _) oM (Memref.isWhole_whole _) gM (Memref.isWhole_whole _) cc0_scratch1 cc0_scratch2 c a0 a1 a2 >>= k) Q := by
  rw [k0_part11_eq_skeleton]; unfold k0_part11_skel
  simp only [Prog.lift, Prog.bind_op, Prog.bind_ret, Prog.pure_eq_ret]
  exact send m K c 7 (o2 c 1) (recv m K c 18 (h _))

theorem part12 {α : Type} {Q : α → sProp 𝕄} (a0 a1) {k} (h : ∀ r, St m K c 20 ⊢ wpc c (k r) Q) :
    St m K c 19 ⊢ wpc c (k0_part12 (F := F) xM (Memref.isWhole_whole _) wM (Memref.isWhole_whole _) oM (Memref.isWhole_whole _) gM (Memref.isWhole_whole _) cc0_scratch1 cc0_scratch2 c a0 a1 >>= k) Q := by
  rw [k0_part12_eq_skeleton]; unfold k0_part12_skel
  simp only [Prog.lift, Prog.bind_op, Prog.bind_ret, Prog.pure_eq_ret]
  exact send m K c 8 (o4 c 2) (h _)

theorem part13 {α : Type} {Q : α → sProp 𝕄} (a0 a1) {k} (h : ∀ r, St m K c 22 ⊢ wpc c (k r) Q) :
    St m K c 20 ⊢ wpc c (k0_part13 (F := F) xM (Memref.isWhole_whole _) wM (Memref.isWhole_whole _) oM (Memref.isWhole_whole _) gM (Memref.isWhole_whole _) cc0_scratch1 cc0_scratch2 c a0 a1 >>= k) Q := by
  rw [k0_part13_eq_skeleton]; unfold k0_part13_skel
  simp only [Prog.lift, Prog.bind_op, Prog.bind_ret, Prog.pure_eq_ret]
  exact send m K c 9 (o4 c 2) (recv m K c 36 (h _))

theorem part14 {α : Type} {Q : α → sProp 𝕄} (a0 a1) {k} (h : ∀ r, St m K c 23 ⊢ wpc c (k r) Q) :
    St m K c 22 ⊢ wpc c (k0_part14 (F := F) xM (Memref.isWhole_whole _) wM (Memref.isWhole_whole _) oM (Memref.isWhole_whole _) gM (Memref.isWhole_whole _) cc0_scratch1 cc0_scratch2 c a0 a1 >>= k) Q := by
  rw [k0_part14_eq_skeleton]; unfold k0_part14_skel
  simp only [Prog.lift, Prog.bind_op, Prog.bind_ret, Prog.pure_eq_ret]
  exact send m K c 10 (o6 c 4) (h _)

theorem part15 {α : Type} {Q : α → sProp 𝕄} (a0 a1) {k} (h : ∀ r, St m K c 25 ⊢ wpc c (k r) Q) :
    St m K c 23 ⊢ wpc c (k0_part15 (F := F) xM (Memref.isWhole_whole _) wM (Memref.isWhole_whole _) oM (Memref.isWhole_whole _) gM (Memref.isWhole_whole _) cc0_scratch1 cc0_scratch2 c a0 a1 >>= k) Q := by
  rw [k0_part15_eq_skeleton]; unfold k0_part15_skel
  simp only [Prog.lift, Prog.bind_op, Prog.bind_ret, Prog.pure_eq_ret]
  exact send m K c 11 (o6 c 4) (recv m K c 9 (h _))

theorem part16 {α : Type} {Q : α → sProp 𝕄} (a0) {k} (h : ∀ r, St m K c 27 ⊢ wpc c (k r) Q) :
    St m K c 25 ⊢ wpc c (k0_part16 (F := F) xM (Memref.isWhole_whole _) wM (Memref.isWhole_whole _) oM (Memref.isWhole_whole _) gM (Memref.isWhole_whole _) cc0_scratch1 cc0_scratch2 c a0 >>= k) Q := by
  rw [k0_part16_eq_skeleton]; unfold k0_part16_skel
  simp only [Prog.lift, Prog.bind_op, Prog.bind_ret, Prog.pure_eq_ret]
  exact send m K c 12 (o8 c 1) (send m K c 13 (o8 c 1) (h _))

theorem part17 {α : Type} {Q : α → sProp 𝕄} (a0 a1 a2 a3 a4) {k} (h : ∀ r, St m K c 28 ⊢ wpc c (k r) Q) :
    St m K c 27 ⊢ wpc c (k0_part17 (F := F) xM (Memref.isWhole_whole _) wM (Memref.isWhole_whole _) oM (Memref.isWhole_whole _) gM (Memref.isWhole_whole _) cc0_scratch1 cc0_scratch2 c a0 a1 a2 a3 a4 >>= k) Q := by
  rw [k0_part17_eq_skeleton]; unfold k0_part17_skel
  simp only [Prog.lift, Prog.bind_op, Prog.bind_ret, Prog.pure_eq_ret]
  exact recv m K c 26 (h _)

theorem part18 {α : Type} {Q : α → sProp 𝕄} (a0 a1) {k} (h : ∀ r, St m K c 30 ⊢ wpc c (k r) Q) :
    St m K c 28 ⊢ wpc c (k0_part18 (F := F) xM (Memref.isWhole_whole _) wM (Memref.isWhole_whole _) oM (Memref.isWhole_whole _) gM (Memref.isWhole_whole _) cc0_scratch1 cc0_scratch2 c a0 a1 >>= k) Q := by
  rw [k0_part18_eq_skeleton]; unfold k0_part18_skel
  simp only [Prog.lift, Prog.bind_op, Prog.bind_ret, Prog.pure_eq_ret]
  exact send m K c 14 (o10 c 2) (send m K c 15 (o10 c 2) (h _))

theorem part19 {α : Type} {Q : α → sProp 𝕄} (a0 a1 a2) {k} (h : ∀ r, St m K c 32 ⊢ wpc c (k r) Q) :
    St m K c 30 ⊢ wpc c (k0_part19 (F := F) xM (Memref.isWhole_whole _) wM (Memref.isWhole_whole _) oM (Memref.isWhole_whole _) gM (Memref.isWhole_whole _) cc0_scratch1 cc0_scratch2 c a0 a1 a2 >>= k) Q := by
  rw [k0_part19_eq_skeleton]; unfold k0_part19_skel
  simp only [Prog.lift, Prog.bind_op, Prog.bind_ret, Prog.pure_eq_ret]
  exact recv m K c 44 (send m K c 16 (o12 c 4) (h _))

theorem part20 {α : Type} {Q : α → sProp 𝕄} (a0 a1 a2 a3) {k} (h : ∀ r, St m K c 33 ⊢ wpc c (k ⟨r, (k0_pay12 (k0_pay7 (wAt m c)) (rows176 m (dev c 1) 0)), (k0_pay13 (k0_pay7 (wAt m c)) (rows176 m (dev c 1) 0))⟩) Q) :
    St m K c 32 ⊢ wpc c (k0_part20 (F := F) xM (Memref.isWhole_whole _) wM (Memref.isWhole_whole _) oM (Memref.isWhole_whole _) gM (Memref.isWhole_whole _) cc0_scratch1 cc0_scratch2 c a0 (k0_pay7 (wAt m c)) a1 a2 a3 >>= k) Q := by
  rw [k0_part20_eq_skeleton]; unfold k0_part20_skel
  simp only [Prog.lift, Prog.bind_op, Prog.bind_ret, Prog.pure_eq_ret]
  exact send m K c 17 (o12 c 4) (load176 m K c 1 0 (o13 c 1) (h _))

theorem part21 {α : Type} {Q : α → sProp 𝕄} (a0 a1) {k} (h : ∀ r, St m K c 35 ⊢ wpc c (k r) Q) :
    St m K c 33 ⊢ wpc c (k0_part21 (F := F) xM (Memref.isWhole_whole _) wM (Memref.isWhole_whole _) oM (Memref.isWhole_whole _) gM (Memref.isWhole_whole _) cc0_scratch1 cc0_scratch2 c a0 (k0_pay7 (wAt m c)) a1 (k0_pay12 (k0_pay7 (wAt m c)) (rows176 m (dev c 1) 0)) (k0_pay13 (k0_pay7 (wAt m c)) (rows176 m (dev c 1) 0)) >>= k) Q := by
  rw [k0_part21_eq_skeleton]; unfold k0_part21_skel
  simp only [Prog.lift, Prog.bind_op, Prog.bind_ret, Prog.pure_eq_ret]
  exact loadO m K c fun _ => store176 m K c 1 0 (o14 c 1 0) (load176 m K c 10 1 (o15 c 2) (loadO m K c fun _ => store176 m K c 10 1 (o14 c 2 1) (h _)))

theorem part22 {α : Type} {Q : α → sProp 𝕄} (a0 a1 a2) {k} (h : ∀ r, St m K c 36 ⊢ wpc c (k r) Q) :
    St m K c 35 ⊢ wpc c (k0_part22 (F := F) xM (Memref.isWhole_whole _) wM (Memref.isWhole_whole _) oM (Memref.isWhole_whole _) gM (Memref.isWhole_whole _) cc0_scratch1 cc0_scratch2 c a0 a1 (k0_pay7 (wAt m c)) a2 >>= k) Q := by
  rw [k0_part22_eq_skeleton]; unfold k0_part22_skel
  simp only [Prog.lift, Prog.bind_op, Prog.bind_ret, Prog.pure_eq_ret]
  exact load160 m K c 20 (o16 c 4) (loadO m K c fun _ => store160 m K c 20 (o17 c 4) (h _))

end Cert.KernelIdeal.Proof

end
-- ==== Proof.PartsB.lean ====
/-
Parts 23 to 44 of the body: the second hop of the exchange and the blocks that it brings. Each theorem carries the state of one device over one part.
-/
module

public import proofs.«01_k».proof.Proof.Moves

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

theorem part23 {α : Type} {Q : α → sProp 𝕄} (a0) {k} (h : ∀ r, St m K c 38 ⊢ wpc c (k r) Q) :
    St m K c 36 ⊢ wpc c (k0_part23 (F := F) xM (Memref.isWhole_whole _) wM (Memref.isWhole_whole _) oM (Memref.isWhole_whole _) gM (Memref.isWhole_whole _) cc0_scratch1 cc0_scratch2 c a0 >>= k) Q := by
  rw [k0_part23_eq_skeleton]; unfold k0_part23_skel
  simp only [Prog.lift, Prog.bind_op, Prog.bind_ret, Prog.pure_eq_ret]
  exact recv m K c 3 (send m K c 18 (o2 c 3) (h _))

theorem part24 {α : Type} {Q : α → sProp 𝕄} (a0 a1) {k} (h : ∀ r, St m K c 40 ⊢ wpc c (k r) Q) :
    St m K c 38 ⊢ wpc c (k0_part24 (F := F) xM (Memref.isWhole_whole _) wM (Memref.isWhole_whole _) oM (Memref.isWhole_whole _) gM (Memref.isWhole_whole _) cc0_scratch1 cc0_scratch2 c a0 a1 >>= k) Q := by
  rw [k0_part24_eq_skeleton]; unfold k0_part24_skel
  simp only [Prog.lift, Prog.bind_op, Prog.bind_ret, Prog.pure_eq_ret]
  exact send m K c 19 (o2 c 3) (recv m K c 5 (h _))

theorem part25 {α : Type} {Q : α → sProp 𝕄} (a0 a1) {k} (h : ∀ r, St m K c 41 ⊢ wpc c (k r) Q) :
    St m K c 40 ⊢ wpc c (k0_part25 (F := F) xM (Memref.isWhole_whole _) wM (Memref.isWhole_whole _) oM (Memref.isWhole_whole _) gM (Memref.isWhole_whole _) cc0_scratch1 cc0_scratch2 c a0 a1 >>= k) Q := by
  rw [k0_part25_eq_skeleton]; unfold k0_part25_skel
  simp only [Prog.lift, Prog.bind_op, Prog.bind_ret, Prog.pure_eq_ret]
  exact send m K c 20 (o2 c 5) (h _)

theorem part26 {α : Type} {Q : α → sProp 𝕄} (a0) {k} (h : ∀ r, St m K c 43 ⊢ wpc c (k r) Q) :
    St m K c 41 ⊢ wpc c (k0_part26 (F := F) xM (Memref.isWhole_whole _) wM (Memref.isWhole_whole _) oM (Memref.isWhole_whole _) gM (Memref.isWhole_whole _) cc0_scratch1 cc0_scratch2 c a0 >>= k) Q := by
  rw [k0_part26_eq_skeleton]; unfold k0_part26_skel
  simp only [Prog.lift, Prog.bind_op, Prog.bind_ret, Prog.pure_eq_ret]
  exact recv m K c 22 (send m K c 21 (o4 c 6) (h _))

theorem part27 {α : Type} {Q : α → sProp 𝕄} (a0 a1 a2 a3) {k} (h : ∀ r, St m K c 44 ⊢ wpc c (k r) Q) :
    St m K c 43 ⊢ wpc c (k0_part27 (F := F) xM (Memref.isWhole_whole _) wM (Memref.isWhole_whole _) oM (Memref.isWhole_whole _) gM (Memref.isWhole_whole _) cc0_scratch1 cc0_scratch2 c a0 a1 a2 a3 >>= k) Q := by
  rw [k0_part27_eq_skeleton]; unfold k0_part27_skel
  simp only [Prog.lift, Prog.bind_op, Prog.bind_ret, Prog.pure_eq_ret]
  exact send m K c 22 (o4 c 6) (h _)

theorem part28 {α : Type} {Q : α → sProp 𝕄} (a0 a1) {k} (h : ∀ r, St m K c 46 ⊢ wpc c (k r) Q) :
    St m K c 44 ⊢ wpc c (k0_part28 (F := F) xM (Memref.isWhole_whole _) wM (Memref.isWhole_whole _) oM (Memref.isWhole_whole _) gM (Memref.isWhole_whole _) cc0_scratch1 cc0_scratch2 c a0 a1 >>= k) Q := by
  rw [k0_part28_eq_skeleton]; unfold k0_part28_skel
  simp only [Prog.lift, Prog.bind_op, Prog.bind_ret, Prog.pure_eq_ret]
  exact recv m K c 19 (send m K c 23 (o4 c 3) (h _))

theorem part29 {α : Type} {Q : α → sProp 𝕄} (a0) {k} (h : ∀ r, St m K c 48 ⊢ wpc c (k r) Q) :
    St m K c 46 ⊢ wpc c (k0_part29 (F := F) xM (Memref.isWhole_whole _) wM (Memref.isWhole_whole _) oM (Memref.isWhole_whole _) gM (Memref.isWhole_whole _) cc0_scratch1 cc0_scratch2 c a0 >>= k) Q := by
  rw [k0_part29_eq_skeleton]; unfold k0_part29_skel
  simp only [Prog.lift, Prog.bind_op, Prog.bind_ret, Prog.pure_eq_ret]
  exact recv m K c 37 (send m K c 24 (o6 c 5) (h _))

theorem part30 {α : Type} {Q : α → sProp 𝕄} (a0 a1 a2 a3 a4) {k} (h : ∀ r, St m K c 49 ⊢ wpc c (k r) Q) :
    St m K c 48 ⊢ wpc c (k0_part30 (F := F) xM (Memref.isWhole_whole _) wM (Memref.isWhole_whole _) oM (Memref.isWhole_whole _) gM (Memref.isWhole_whole _) cc0_scratch1 cc0_scratch2 c a0 a1 a2 a3 a4 >>= k) Q := by
  rw [k0_part30_eq_skeleton]; unfold k0_part30_skel
  simp only [Prog.lift, Prog.bind_op, Prog.bind_ret, Prog.pure_eq_ret]
  exact send m K c 25 (o6 c 5) (h _)

theorem part31 {α : Type} {Q : α → sProp 𝕄} (a0 a1) {k} (h : ∀ r, St m K c 51 ⊢ wpc c (k r) Q) :
    St m K c 49 ⊢ wpc c (k0_part31 (F := F) xM (Memref.isWhole_whole _) wM (Memref.isWhole_whole _) oM (Memref.isWhole_whole _) gM (Memref.isWhole_whole _) cc0_scratch1 cc0_scratch2 c a0 a1 >>= k) Q := by
  rw [k0_part31_eq_skeleton]; unfold k0_part31_skel
  simp only [Prog.lift, Prog.bind_op, Prog.bind_ret, Prog.pure_eq_ret]
  exact recv m K c 38 (send m K c 26 (o6 c 6) (h _))

theorem part32 {α : Type} {Q : α → sProp 𝕄} (a0 a1 a2) {k} (h : ∀ r, St m K c 53 ⊢ wpc c (k r) Q) :
    St m K c 51 ⊢ wpc c (k0_part32 (F := F) xM (Memref.isWhole_whole _) wM (Memref.isWhole_whole _) oM (Memref.isWhole_whole _) gM (Memref.isWhole_whole _) cc0_scratch1 cc0_scratch2 c a0 a1 a2 >>= k) Q := by
  rw [k0_part32_eq_skeleton]; unfold k0_part32_skel
  simp only [Prog.lift, Prog.bind_op, Prog.bind_ret, Prog.pure_eq_ret]
  exact recv m K c 11 (send m K c 27 (o8 c 3) (h _))

theorem part33 {α : Type} {Q : α → sProp 𝕄} (a0 a1 a2 a3 a4) {k} (h : ∀ r, St m K c 54 ⊢ wpc c (k r) Q) :
    St m K c 53 ⊢ wpc c (k0_part33 (F := F) xM (Memref.isWhole_whole _) wM (Memref.isWhole_whole _) oM (Memref.isWhole_whole _) gM (Memref.isWhole_whole _) cc0_scratch1 cc0_scratch2 c a0 a1 a2 a3 a4 >>= k) Q := by
  rw [k0_part33_eq_skeleton]; unfold k0_part33_skel
  simp only [Prog.lift, Prog.bind_op, Prog.bind_ret, Prog.pure_eq_ret]
  exact send m K c 28 (o8 c 3) (h _)

theorem part34 {α : Type} {Q : α → sProp 𝕄} (a0 a1) {k} (h : ∀ r, St m K c 56 ⊢ wpc c (k r) Q) :
    St m K c 54 ⊢ wpc c (k0_part34 (F := F) xM (Memref.isWhole_whole _) wM (Memref.isWhole_whole _) oM (Memref.isWhole_whole _) gM (Memref.isWhole_whole _) cc0_scratch1 cc0_scratch2 c a0 a1 >>= k) Q := by
  rw [k0_part34_eq_skeleton]; unfold k0_part34_skel
  simp only [Prog.lift, Prog.bind_op, Prog.bind_ret, Prog.pure_eq_ret]
  exact recv m K c 13 (send m K c 29 (o8 c 5) (h _))

theorem part35 {α : Type} {Q : α → sProp 𝕄} (a0 a1) {k} (h : ∀ r, St m K c 58 ⊢ wpc c (k r) Q) :
    St m K c 56 ⊢ wpc c (k0_part35 (F := F) xM (Memref.isWhole_whole _) wM (Memref.isWhole_whole _) oM (Memref.isWhole_whole _) gM (Memref.isWhole_whole _) cc0_scratch1 cc0_scratch2 c a0 a1 >>= k) Q := by
  rw [k0_part35_eq_skeleton]; unfold k0_part35_skel
  simp only [Prog.lift, Prog.bind_op, Prog.bind_ret, Prog.pure_eq_ret]
  exact recv m K c 30 (send m K c 30 (o10 c 6) (h _))

theorem part36 {α : Type} {Q : α → sProp 𝕄} (a0 a1 a2 a3) {k} (h : ∀ r, St m K c 59 ⊢ wpc c (k r) Q) :
    St m K c 58 ⊢ wpc c (k0_part36 (F := F) xM (Memref.isWhole_whole _) wM (Memref.isWhole_whole _) oM (Memref.isWhole_whole _) gM (Memref.isWhole_whole _) cc0_scratch1 cc0_scratch2 c a0 a1 a2 a3 >>= k) Q := by
  rw [k0_part36_eq_skeleton]; unfold k0_part36_skel
  simp only [Prog.lift, Prog.bind_op, Prog.bind_ret, Prog.pure_eq_ret]
  exact send m K c 31 (o10 c 6) (h _)

theorem part37 {α : Type} {Q : α → sProp 𝕄} (a0) {k} (h : ∀ r, St m K c 61 ⊢ wpc c (k r) Q) :
    St m K c 59 ⊢ wpc c (k0_part37 (F := F) xM (Memref.isWhole_whole _) wM (Memref.isWhole_whole _) oM (Memref.isWhole_whole _) gM (Memref.isWhole_whole _) cc0_scratch1 cc0_scratch2 c a0 >>= k) Q := by
  rw [k0_part37_eq_skeleton]; unfold k0_part37_skel
  simp only [Prog.lift, Prog.bind_op, Prog.bind_ret, Prog.pure_eq_ret]
  exact recv m K c 27 (send m K c 32 (o10 c 3) (h _))

theorem part38 {α : Type} {Q : α → sProp 𝕄} (a0 a1 a2) {k} (h : ∀ r, St m K c 63 ⊢ wpc c (k r) Q) :
    St m K c 61 ⊢ wpc c (k0_part38 (F := F) xM (Memref.isWhole_whole _) wM (Memref.isWhole_whole _) oM (Memref.isWhole_whole _) gM (Memref.isWhole_whole _) cc0_scratch1 cc0_scratch2 c a0 a1 a2 >>= k) Q := by
  rw [k0_part38_eq_skeleton]; unfold k0_part38_skel
  simp only [Prog.lift, Prog.bind_op, Prog.bind_ret, Prog.pure_eq_ret]
  exact recv m K c 45 (send m K c 33 (o12 c 5) (h _))

theorem part39 {α : Type} {Q : α → sProp 𝕄} (a0 a1 a2 a3 a4) {k} (h : ∀ r, St m K c 64 ⊢ wpc c (k r) Q) :
    St m K c 63 ⊢ wpc c (k0_part39 (F := F) xM (Memref.isWhole_whole _) wM (Memref.isWhole_whole _) oM (Memref.isWhole_whole _) gM (Memref.isWhole_whole _) cc0_scratch1 cc0_scratch2 c a0 a1 a2 a3 a4 >>= k) Q := by
  rw [k0_part39_eq_skeleton]; unfold k0_part39_skel
  simp only [Prog.lift, Prog.bind_op, Prog.bind_ret, Prog.pure_eq_ret]
  exact send m K c 34 (o12 c 5) (h _)

theorem part40 {α : Type} {Q : α → sProp 𝕄} (a0) {k} (h : ∀ r, St m K c 66 ⊢ wpc c (k ⟨r, (rows176 m (dev c 3) 0)⟩) Q) :
    St m K c 64 ⊢ wpc c (k0_part40 (F := F) xM (Memref.isWhole_whole _) wM (Memref.isWhole_whole _) oM (Memref.isWhole_whole _) gM (Memref.isWhole_whole _) cc0_scratch1 cc0_scratch2 c a0 >>= k) Q := by
  rw [k0_part40_eq_skeleton]; unfold k0_part40_skel
  simp only [Prog.lift, Prog.bind_op, Prog.bind_ret, Prog.pure_eq_ret]
  exact recv m K c 46 (send m K c 35 (o12 c 6) (load176 m K c 3 0 (o13 c 3) (h _)))

theorem part41 {α : Type} {Q : α → sProp 𝕄} (a0 a1) {k} (h : ∀ r, St m K c 67 ⊢ wpc c (k ⟨r, (k0_pay19 (k0_pay7 (wAt m c)) (rows176 m (dev c 5) 0)), (k0_pay20 (k0_pay7 (wAt m c)) (rows176 m (dev c 5) 0)), k0_pay21 (F := F)⟩) Q) :
    St m K c 66 ⊢ wpc c (k0_part41 (F := F) xM (Memref.isWhole_whole _) wM (Memref.isWhole_whole _) oM (Memref.isWhole_whole _) gM (Memref.isWhole_whole _) cc0_scratch1 cc0_scratch2 c a0 (k0_pay7 (wAt m c)) a1 (rows176 m (dev c 3) 0) >>= k) Q := by
  rw [k0_part41_eq_skeleton]; unfold k0_part41_skel
  simp only [Prog.lift, Prog.bind_op, Prog.bind_ret, Prog.pure_eq_ret]
  exact loadO m K c fun _ => store176 m K c 3 0 (o14 c 3 0) (load176 m K c 5 0 (o13 c 5) (h _))

theorem part42 {α : Type} {Q : α → sProp 𝕄} (a0 a1) {k} (h : ∀ r, St m K c 69 ⊢ wpc c (k r) Q) :
    St m K c 67 ⊢ wpc c (k0_part42 (F := F) xM (Memref.isWhole_whole _) wM (Memref.isWhole_whole _) oM (Memref.isWhole_whole _) gM (Memref.isWhole_whole _) cc0_scratch1 cc0_scratch2 c a0 (k0_pay7 (wAt m c)) a1 (k0_pay19 (k0_pay7 (wAt m c)) (rows176 m (dev c 5) 0)) (k0_pay20 (k0_pay7 (wAt m c)) (rows176 m (dev c 5) 0)) (k0_pay21 (F := F)) >>= k) Q := by
  rw [k0_part42_eq_skeleton]; unfold k0_part42_skel
  simp only [Prog.lift, Prog.bind_op, Prog.bind_ret, Prog.pure_eq_ret]
  exact loadO m K c fun _ => store176 m K c 5 0 (o14 c 5 0) (load176 m K c 14 1 (o15 c 6) (loadO m K c fun _ => store176 m K c 14 1 (o14 c 6 1) (h _)))

theorem part43 {α : Type} {Q : α → sProp 𝕄} (a0 a1 a2 a3) {k} (h : ∀ r, St m K c 70 ⊢ wpc c (k ⟨r, (k0_pay26 (k0_pay7 (wAt m c)) (rows160 m (dev c 5))), (k0_pay27 (k0_pay7 (wAt m c)) (rows160 m (dev c 5)))⟩) Q) :
    St m K c 69 ⊢ wpc c (k0_part43 (F := F) xM (Memref.isWhole_whole _) wM (Memref.isWhole_whole _) oM (Memref.isWhole_whole _) gM (Memref.isWhole_whole _) cc0_scratch1 cc0_scratch2 c a0 (k0_pay7 (wAt m c)) a1 a2 a3 >>= k) Q := by
  rw [k0_part43_eq_skeleton]; unfold k0_part43_skel
  simp only [Prog.lift, Prog.bind_op, Prog.bind_ret, Prog.pure_eq_ret]
  exact load176 m K c 11 1 (o15 c 3) (loadO m K c fun _ => store176 m K c 11 1 (o14 c 3 1) (load160 m K c 21 (o16 c 5) (h _)))

theorem part44 {α : Type} {Q : α → sProp 𝕄} (a0 a1) {k} (h : ∀ r, St m K c 72 ⊢ wpc c (k r) Q) :
    St m K c 70 ⊢ wpc c (k0_part44 (F := F) xM (Memref.isWhole_whole _) wM (Memref.isWhole_whole _) oM (Memref.isWhole_whole _) gM (Memref.isWhole_whole _) cc0_scratch1 cc0_scratch2 c a0 (k0_pay7 (wAt m c)) a1 (k0_pay26 (k0_pay7 (wAt m c)) (rows160 m (dev c 5))) (k0_pay27 (k0_pay7 (wAt m c)) (rows160 m (dev c 5))) >>= k) Q := by
  rw [k0_part44_eq_skeleton]; unfold k0_part44_skel
  simp only [Prog.lift, Prog.bind_op, Prog.bind_ret, Prog.pure_eq_ret]
  exact loadO m K c fun _ => store160 m K c 21 (o17 c 5) (load160 m K c 22 (o16 c 6) (loadO m K c fun _ => store160 m K c 22 (o17 c 6) (h _)))

end Cert.KernelIdeal.Proof

end
-- ==== Proof.PartsC.lean ====
/-
Parts 45 to 68 of the body: the last hop of the exchange and the rest of the blocks. Each theorem carries the state of one device over one part.
-/
module

public import proofs.«01_k».proof.Proof.Moves

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

theorem part45 {α : Type} {Q : α → sProp 𝕄} (a0 a1 a2) {k} (h : ∀ r, St m K c 73 ⊢ wpc c (k r) Q) :
    St m K c 72 ⊢ wpc c (k0_part45 (F := F) xM (Memref.isWhole_whole _) wM (Memref.isWhole_whole _) oM (Memref.isWhole_whole _) gM (Memref.isWhole_whole _) cc0_scratch1 cc0_scratch2 c a0 a1 a2 >>= k) Q := by
  rw [k0_part45_eq_skeleton]; unfold k0_part45_skel
  simp only [Prog.lift, Prog.bind_op, Prog.bind_ret, Prog.pure_eq_ret]
  exact recv m K c 7 (h _)

theorem part46 {α : Type} {Q : α → sProp 𝕄} (a0 a1) {k} (h : ∀ r, St m K c 75 ⊢ wpc c (k r) Q) :
    St m K c 73 ⊢ wpc c (k0_part46 (F := F) xM (Memref.isWhole_whole _) wM (Memref.isWhole_whole _) oM (Memref.isWhole_whole _) gM (Memref.isWhole_whole _) cc0_scratch1 cc0_scratch2 c a0 a1 >>= k) Q := by
  rw [k0_part46_eq_skeleton]; unfold k0_part46_skel
  simp only [Prog.lift, Prog.bind_op, Prog.bind_ret, Prog.pure_eq_ret]
  exact send m K c 36 (o2 c 7) (recv m K c 23 (h _))

theorem part47 {α : Type} {Q : α → sProp 𝕄} (a0 a1 a2) {k} (h : ∀ r, St m K c 77 ⊢ wpc c (k r) Q) :
    St m K c 75 ⊢ wpc c (k0_part47 (F := F) xM (Memref.isWhole_whole _) wM (Memref.isWhole_whole _) oM (Memref.isWhole_whole _) gM (Memref.isWhole_whole _) cc0_scratch1 cc0_scratch2 c a0 a1 a2 >>= k) Q := by
  rw [k0_part47_eq_skeleton]; unfold k0_part47_skel
  simp only [Prog.lift, Prog.bind_op, Prog.bind_ret, Prog.pure_eq_ret]
  exact send m K c 37 (o4 c 7) (recv m K c 39 (h _))

theorem part48 {α : Type} {Q : α → sProp 𝕄} (a0 a1 a2 a3) {k} (h : ∀ r, St m K c 79 ⊢ wpc c (k r) Q) :
    St m K c 77 ⊢ wpc c (k0_part48 (F := F) xM (Memref.isWhole_whole _) wM (Memref.isWhole_whole _) oM (Memref.isWhole_whole _) gM (Memref.isWhole_whole _) cc0_scratch1 cc0_scratch2 c a0 a1 a2 a3 >>= k) Q := by
  rw [k0_part48_eq_skeleton]; unfold k0_part48_skel
  simp only [Prog.lift, Prog.bind_op, Prog.bind_ret, Prog.pure_eq_ret]
  exact send m K c 38 (o6 c 7) (recv m K c 15 (h _))

theorem part49 {α : Type} {Q : α → sProp 𝕄} (a0 a1 a2 a3) {k} (h : ∀ r, St m K c 80 ⊢ wpc c (k r) Q) :
    St m K c 79 ⊢ wpc c (k0_part49 (F := F) xM (Memref.isWhole_whole _) wM (Memref.isWhole_whole _) oM (Memref.isWhole_whole _) gM (Memref.isWhole_whole _) cc0_scratch1 cc0_scratch2 c a0 a1 a2 a3 >>= k) Q := by
  rw [k0_part49_eq_skeleton]; unfold k0_part49_skel
  simp only [Prog.lift, Prog.bind_op, Prog.bind_ret, Prog.pure_eq_ret]
  exact send m K c 39 (o8 c 7) (h _)

theorem part50 {α : Type} {Q : α → sProp 𝕄} (a0) {k} (h : ∀ r, St m K c 82 ⊢ wpc c (k r) Q) :
    St m K c 80 ⊢ wpc c (k0_part50 (F := F) xM (Memref.isWhole_whole _) wM (Memref.isWhole_whole _) oM (Memref.isWhole_whole _) gM (Memref.isWhole_whole _) cc0_scratch1 cc0_scratch2 c a0 >>= k) Q := by
  rw [k0_part50_eq_skeleton]; unfold k0_part50_skel
  simp only [Prog.lift, Prog.bind_op, Prog.bind_ret, Prog.pure_eq_ret]
  exact recv m K c 31 (send m K c 40 (o10 c 7) (h _))

theorem part51 {α : Type} {Q : α → sProp 𝕄} (a0 a1) {k} (h : ∀ r, St m K c 84 ⊢ wpc c (k r) Q) :
    St m K c 82 ⊢ wpc c (k0_part51 (F := F) xM (Memref.isWhole_whole _) wM (Memref.isWhole_whole _) oM (Memref.isWhole_whole _) gM (Memref.isWhole_whole _) cc0_scratch1 cc0_scratch2 c a0 a1 >>= k) Q := by
  rw [k0_part51_eq_skeleton]; unfold k0_part51_skel
  simp only [Prog.lift, Prog.bind_op, Prog.bind_ret, Prog.pure_eq_ret]
  exact recv m K c 47 (send m K c 41 (o12 c 7) (h _))

theorem part52 {α : Type} {Q : α → sProp 𝕄} (a0 a1 a2) {k} (h : ∀ r, St m K c 86 ⊢ wpc c (k r) Q) :
    St m K c 84 ⊢ wpc c (k0_part52 (F := F) xM (Memref.isWhole_whole _) wM (Memref.isWhole_whole _) oM (Memref.isWhole_whole _) gM (Memref.isWhole_whole _) cc0_scratch1 cc0_scratch2 c a0 a1 a2 >>= k) Q := by
  rw [k0_part52_eq_skeleton]; unfold k0_part52_skel
  simp only [Prog.lift, Prog.bind_op, Prog.bind_ret, Prog.pure_eq_ret]
  exact recv m K c 2 (recv m K c 4 (h _))

theorem part53 {α : Type} {Q : α → sProp 𝕄} (a0 a1 a2 a3) {k} (h : ∀ r, St m K c 88 ⊢ wpc c (k r) Q) :
    St m K c 86 ⊢ wpc c (k0_part53 (F := F) xM (Memref.isWhole_whole _) wM (Memref.isWhole_whole _) oM (Memref.isWhole_whole _) gM (Memref.isWhole_whole _) cc0_scratch1 cc0_scratch2 c a0 a1 a2 a3 >>= k) Q := by
  rw [k0_part53_eq_skeleton]; unfold k0_part53_skel
  simp only [Prog.lift, Prog.bind_op, Prog.bind_ret, Prog.pure_eq_ret]
  exact recv m K c 20 (recv m K c 17 (h _))

theorem part54 {α : Type} {Q : α → sProp 𝕄} (a0 a1 a2 a3) {k} (h : ∀ r, St m K c 90 ⊢ wpc c (k r) Q) :
    St m K c 88 ⊢ wpc c (k0_part54 (F := F) xM (Memref.isWhole_whole _) wM (Memref.isWhole_whole _) oM (Memref.isWhole_whole _) gM (Memref.isWhole_whole _) cc0_scratch1 cc0_scratch2 c a0 a1 a2 a3 >>= k) Q := by
  rw [k0_part54_eq_skeleton]; unfold k0_part54_skel
  simp only [Prog.lift, Prog.bind_op, Prog.bind_ret, Prog.pure_eq_ret]
  exact recv m K c 33 (recv m K c 34 (h _))

theorem part55 {α : Type} {Q : α → sProp 𝕄} (a0 a1 a2 a3 a4) {k} (h : ∀ r, St m K c 92 ⊢ wpc c (k r) Q) :
    St m K c 90 ⊢ wpc c (k0_part55 (F := F) xM (Memref.isWhole_whole _) wM (Memref.isWhole_whole _) oM (Memref.isWhole_whole _) gM (Memref.isWhole_whole _) cc0_scratch1 cc0_scratch2 c a0 a1 a2 a3 a4 >>= k) Q := by
  rw [k0_part55_eq_skeleton]; unfold k0_part55_skel
  simp only [Prog.lift, Prog.bind_op, Prog.bind_ret, Prog.pure_eq_ret]
  exact recv m K c 10 (recv m K c 12 (h _))

theorem part56 {α : Type} {Q : α → sProp 𝕄} (a0 a1) {k} (h : ∀ r, St m K c 94 ⊢ wpc c (k r) Q) :
    St m K c 92 ⊢ wpc c (k0_part56 (F := F) xM (Memref.isWhole_whole _) wM (Memref.isWhole_whole _) oM (Memref.isWhole_whole _) gM (Memref.isWhole_whole _) cc0_scratch1 cc0_scratch2 c a0 a1 >>= k) Q := by
  rw [k0_part56_eq_skeleton]; unfold k0_part56_skel
  simp only [Prog.lift, Prog.bind_op, Prog.bind_ret, Prog.pure_eq_ret]
  exact recv m K c 28 (recv m K c 25 (h _))

theorem part57 {α : Type} {Q : α → sProp 𝕄} (a0 a1) {k} (h : ∀ r, St m K c 96 ⊢ wpc c (k ⟨r, (rows176 m (dev c 7) 0)⟩) Q) :
    St m K c 94 ⊢ wpc c (k0_part57 (F := F) xM (Memref.isWhole_whole _) wM (Memref.isWhole_whole _) oM (Memref.isWhole_whole _) gM (Memref.isWhole_whole _) cc0_scratch1 cc0_scratch2 c a0 a1 >>= k) Q := by
  rw [k0_part57_eq_skeleton]; unfold k0_part57_skel
  simp only [Prog.lift, Prog.bind_op, Prog.bind_ret, Prog.pure_eq_ret]
  exact recv m K c 41 (recv m K c 42 (load176 m K c 7 0 (o13 c 7) (h _)))

theorem part58 {α : Type} {Q : α → sProp 𝕄} (a0 a1) {k} (h : ∀ r, St m K c 97 ⊢ wpc c (k ⟨r, (k0_pay32 (k0_pay7 (wAt m c)) (rows176 m (dev c 2) 0)), (k0_pay33 (k0_pay7 (wAt m c)) (rows176 m (dev c 2) 0)), k0_pay34 (F := F)⟩) Q) :
    St m K c 96 ⊢ wpc c (k0_part58 (F := F) xM (Memref.isWhole_whole _) wM (Memref.isWhole_whole _) oM (Memref.isWhole_whole _) gM (Memref.isWhole_whole _) cc0_scratch1 cc0_scratch2 c a0 (k0_pay7 (wAt m c)) a1 (rows176 m (dev c 7) 0) >>= k) Q := by
  rw [k0_part58_eq_skeleton]; unfold k0_part58_skel
  simp only [Prog.lift, Prog.bind_op, Prog.bind_ret, Prog.pure_eq_ret]
  exact loadO m K c fun _ => store176 m K c 7 0 (o14 c 7 0) (load176 m K c 2 0 (o13 c 2) (h _))

theorem part59 {α : Type} {Q : α → sProp 𝕄} (a0 a1) {k} (h : ∀ r, St m K c 99 ⊢ wpc c (k r) Q) :
    St m K c 97 ⊢ wpc c (k0_part59 (F := F) xM (Memref.isWhole_whole _) wM (Memref.isWhole_whole _) oM (Memref.isWhole_whole _) gM (Memref.isWhole_whole _) cc0_scratch1 cc0_scratch2 c a0 (k0_pay7 (wAt m c)) a1 (k0_pay32 (k0_pay7 (wAt m c)) (rows176 m (dev c 2) 0)) (k0_pay33 (k0_pay7 (wAt m c)) (rows176 m (dev c 2) 0)) (k0_pay34 (F := F)) >>= k) Q := by
  rw [k0_part59_eq_skeleton]; unfold k0_part59_skel
  simp only [Prog.lift, Prog.bind_op, Prog.bind_ret, Prog.pure_eq_ret]
  exact loadO m K c fun _ => store176 m K c 2 0 (o14 c 2 0) (load176 m K c 4 0 (o13 c 4) (loadO m K c fun _ => store176 m K c 4 0 (o14 c 4 0) (h _)))

theorem part60 {α : Type} {Q : α → sProp 𝕄} (a0 a1 a2 a3) {k} (h : ∀ r, St m K c 100 ⊢ wpc c (k ⟨r, (k0_pay39 (k0_pay7 (wAt m c)) (rows176 m (dev c 4) 1)), (k0_pay40 (k0_pay7 (wAt m c)) (rows176 m (dev c 4) 1))⟩) Q) :
    St m K c 99 ⊢ wpc c (k0_part60 (F := F) xM (Memref.isWhole_whole _) wM (Memref.isWhole_whole _) oM (Memref.isWhole_whole _) gM (Memref.isWhole_whole _) cc0_scratch1 cc0_scratch2 c a0 (k0_pay7 (wAt m c)) a1 a2 a3 >>= k) Q := by
  rw [k0_part60_eq_skeleton]; unfold k0_part60_skel
  simp only [Prog.lift, Prog.bind_op, Prog.bind_ret, Prog.pure_eq_ret]
  exact load176 m K c 15 1 (o15 c 7) (loadO m K c fun _ => store176 m K c 15 1 (o14 c 7 1) (load176 m K c 12 1 (o15 c 4) (h _)))

theorem part61 {α : Type} {Q : α → sProp 𝕄} (a0 a1) {k} (h : ∀ r, St m K c 102 ⊢ wpc c (k r) Q) :
    St m K c 100 ⊢ wpc c (k0_part61 (F := F) xM (Memref.isWhole_whole _) wM (Memref.isWhole_whole _) oM (Memref.isWhole_whole _) gM (Memref.isWhole_whole _) cc0_scratch1 cc0_scratch2 c a0 (k0_pay7 (wAt m c)) a1 (k0_pay39 (k0_pay7 (wAt m c)) (rows176 m (dev c 4) 1)) (k0_pay40 (k0_pay7 (wAt m c)) (rows176 m (dev c 4) 1)) >>= k) Q := by
  rw [k0_part61_eq_skeleton]; unfold k0_part61_skel
  simp only [Prog.lift, Prog.bind_op, Prog.bind_ret, Prog.pure_eq_ret]
  exact loadO m K c fun _ => store176 m K c 12 1 (o14 c 4 1) (load176 m K c 9 1 (o15 c 1) (loadO m K c fun _ => store176 m K c 9 1 (o14 c 1 1) (h _)))

theorem part62 {α : Type} {Q : α → sProp 𝕄} (a0 a1) {k} (h : ∀ r, St m K c 103 ⊢ wpc c (k ⟨r, (k0_pay44 (k0_pay7 (wAt m c)) (rows160 m (dev c 1))), (k0_pay45 (k0_pay7 (wAt m c)) (rows160 m (dev c 1)))⟩) Q) :
    St m K c 102 ⊢ wpc c (k0_part62 (F := F) xM (Memref.isWhole_whole _) wM (Memref.isWhole_whole _) oM (Memref.isWhole_whole _) gM (Memref.isWhole_whole _) cc0_scratch1 cc0_scratch2 c a0 (k0_pay7 (wAt m c)) a1 >>= k) Q := by
  rw [k0_part62_eq_skeleton]; unfold k0_part62_skel
  simp only [Prog.lift, Prog.bind_op, Prog.bind_ret, Prog.pure_eq_ret]
  exact load160 m K c 23 (o16 c 7) (loadO m K c fun _ => store160 m K c 23 (o17 c 7) (load160 m K c 17 (o16 c 1) (h _)))

theorem part63 {α : Type} {Q : α → sProp 𝕄} (a0 a1) {k} (h : ∀ r, St m K c 104 ⊢ wpc c (k ⟨(k0_pay47 (k0_pay7 (wAt m c)) (rows160 m (dev c 2))), r⟩) Q) :
    St m K c 103 ⊢ wpc c (k0_part63 (F := F) xM (Memref.isWhole_whole _) wM (Memref.isWhole_whole _) oM (Memref.isWhole_whole _) gM (Memref.isWhole_whole _) cc0_scratch1 cc0_scratch2 c a0 (k0_pay7 (wAt m c)) a1 (k0_pay44 (k0_pay7 (wAt m c)) (rows160 m (dev c 1))) (k0_pay45 (k0_pay7 (wAt m c)) (rows160 m (dev c 1))) >>= k) Q := by
  rw [k0_part63_eq_skeleton]; unfold k0_part63_skel
  simp only [Prog.lift, Prog.bind_op, Prog.bind_ret, Prog.pure_eq_ret]
  exact loadO m K c fun _ => store160 m K c 17 (o17 c 1) (load160 m K c 18 (o16 c 2) (h _))

theorem part64 {α : Type} {Q : α → sProp 𝕄} (a0 a1 a2) {k} (h : ∀ r, St m K c 106 ⊢ wpc c (k r) Q) :
    St m K c 104 ⊢ wpc c (k0_part64 (F := F) xM (Memref.isWhole_whole _) wM (Memref.isWhole_whole _) oM (Memref.isWhole_whole _) gM (Memref.isWhole_whole _) cc0_scratch1 cc0_scratch2 c a0 a1 (k0_pay47 (k0_pay7 (wAt m c)) (rows160 m (dev c 2))) a2 >>= k) Q := by
  rw [k0_part64_eq_skeleton]; unfold k0_part64_skel
  simp only [Prog.lift, Prog.bind_op, Prog.bind_ret, Prog.pure_eq_ret]
  exact loadO m K c fun _ => store160 m K c 18 (o17 c 2) (recv m K c 6 (h _))

theorem part65 {α : Type} {Q : α → sProp 𝕄} (a0 a1) {k} (h : ∀ r, St m K c 108 ⊢ wpc c (k r) Q) :
    St m K c 106 ⊢ wpc c (k0_part65 (F := F) xM (Memref.isWhole_whole _) wM (Memref.isWhole_whole _) oM (Memref.isWhole_whole _) gM (Memref.isWhole_whole _) cc0_scratch1 cc0_scratch2 c a0 a1 (k0_pay7 (wAt m c)) >>= k) Q := by
  rw [k0_part65_eq_skeleton]; unfold k0_part65_skel
  simp only [Prog.lift, Prog.bind_op, Prog.bind_ret, Prog.pure_eq_ret]
  exact recv m K c 14 (load176 m K c 6 0 (o13 c 6) (loadO m K c fun _ => store176 m K c 6 0 (o14 c 6 0) (h _)))

theorem part66 {α : Type} {Q : α → sProp 𝕄} (a0 a1 a2) {k} (h : ∀ r, St m K c 110 ⊢ wpc c (k ⟨r, (k0_pay49 (k0_pay7 (wAt m c)) (rows176 m (dev c 5) 1)), Scalar.ofBits .f32 0x3F000000#32⟩) Q) :
    St m K c 108 ⊢ wpc c (k0_part66 (F := F) xM (Memref.isWhole_whole _) wM (Memref.isWhole_whole _) oM (Memref.isWhole_whole _) gM (Memref.isWhole_whole _) cc0_scratch1 cc0_scratch2 c a0 a1 (k0_pay7 (wAt m c)) a2 >>= k) Q := by
  rw [k0_part66_eq_skeleton]; unfold k0_part66_skel
  simp only [Prog.lift, Prog.bind_op, Prog.bind_ret, Prog.pure_eq_ret]
  exact recv m K c 21 (recv m K c 29 (load176 m K c 13 1 (o15 c 5) (h _)))

theorem part67 {α : Type} {Q : α → sProp 𝕄} (a0 a1 a2) {k} (h : ∀ r, St m K c 112 ⊢ wpc c (k r) Q) :
    St m K c 110 ⊢ wpc c (k0_part67 (F := F) xM (Memref.isWhole_whole _) wM (Memref.isWhole_whole _) oM (Memref.isWhole_whole _) gM (Memref.isWhole_whole _) cc0_scratch1 cc0_scratch2 c a0 a1 a2 (k0_pay49 (k0_pay7 (wAt m c)) (rows176 m (dev c 5) 1)) (Scalar.ofBits .f32 0x3F000000#32) >>= k) Q := by
  rw [k0_part67_eq_skeleton]; unfold k0_part67_skel
  simp only [Prog.lift, Prog.bind_op, Prog.bind_ret, Prog.pure_eq_ret]
  exact loadO m K c fun _ => store176 m K c 13 1 (o14 c 5 1) (recv m K c 35 (h _))

theorem part68 {α : Type} {Q : α → sProp 𝕄} (a0 a1 a2 a3 a4) {k} (h : ∀ r, St m K c 113 ⊢ wpc c (k ⟨(k0_pay51 (k0_pay7 (wAt m c)) (rows160 m (dev c 3))), r⟩) Q) :
    St m K c 112 ⊢ wpc c (k0_part68 (F := F) xM (Memref.isWhole_whole _) wM (Memref.isWhole_whole _) oM (Memref.isWhole_whole _) gM (Memref.isWhole_whole _) cc0_scratch1 cc0_scratch2 c a0 a1 (k0_pay7 (wAt m c)) a2 a3 a4 >>= k) Q := by
  rw [k0_part68_eq_skeleton]; unfold k0_part68_skel
  simp only [Prog.lift, Prog.bind_op, Prog.bind_ret, Prog.pure_eq_ret]
  exact recv m K c 43 (load160 m K c 19 (o16 c 3) (h _))

end Cert.KernelIdeal.Proof

end
-- ==== Proof.PartsD.lean ====
/-
Parts 69 to 79 of the body: the last block, and the waits for the sends. Each theorem carries the state of one device over one part.
-/
module

public import proofs.«01_k».proof.Proof.Moves

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

theorem part69 {α : Type} {Q : α → sProp 𝕄} (a0) {k} (h : ∀ r, St m K c 117 ⊢ wpc c (k r) Q) :
    St m K c 113 ⊢ wpc c (k0_part69 (F := F) xM (Memref.isWhole_whole _) wM (Memref.isWhole_whole _) oM (Memref.isWhole_whole _) gM (Memref.isWhole_whole _) cc0_scratch1 cc0_scratch2 c (k0_pay51 (k0_pay7 (wAt m c)) (rows160 m (dev c 3))) a0 >>= k) Q := by
  rw [k0_part69_eq_skeleton]; unfold k0_part69_skel
  simp only [Prog.lift, Prog.bind_op, Prog.bind_ret, Prog.pure_eq_ret]
  exact loadO m K c fun _ => store160 m K c 19 (o17 c 3) (sent m K c 0 (sent m K c 1 (sent m K c 2 (h _))))

theorem part70 {α : Type} {Q : α → sProp 𝕄} {k} (h : ∀ r, St m K c 121 ⊢ wpc c (k r) Q) :
    St m K c 117 ⊢ wpc c (k0_part70 (F := F) xM (Memref.isWhole_whole _) wM (Memref.isWhole_whole _) oM (Memref.isWhole_whole _) gM (Memref.isWhole_whole _) cc0_scratch1 cc0_scratch2 c >>= k) Q := by
  rw [k0_part70_eq_skeleton]; unfold k0_part70_skel
  simp only [Prog.lift, Prog.bind_op, Prog.bind_ret, Prog.pure_eq_ret]
  exact sent m K c 3 (sent m K c 4 (sent m K c 5 (sent m K c 6 (h _))))

theorem part71 {α : Type} {Q : α → sProp 𝕄} {k} (h : ∀ r, St m K c 125 ⊢ wpc c (k r) Q) :
    St m K c 121 ⊢ wpc c (k0_part71 (F := F) xM (Memref.isWhole_whole _) wM (Memref.isWhole_whole _) oM (Memref.isWhole_whole _) gM (Memref.isWhole_whole _) cc0_scratch1 cc0_scratch2 c >>= k) Q := by
  rw [k0_part71_eq_skeleton]; unfold k0_part71_skel
  simp only [Prog.lift, Prog.bind_op, Prog.bind_ret, Prog.pure_eq_ret]
  exact sent m K c 7 (sent m K c 8 (sent m K c 9 (sent m K c 10 (h _))))

theorem part72 {α : Type} {Q : α → sProp 𝕄} {k} (h : ∀ r, St m K c 128 ⊢ wpc c (k r) Q) :
    St m K c 125 ⊢ wpc c (k0_part72 (F := F) xM (Memref.isWhole_whole _) wM (Memref.isWhole_whole _) oM (Memref.isWhole_whole _) gM (Memref.isWhole_whole _) cc0_scratch1 cc0_scratch2 c >>= k) Q := by
  rw [k0_part72_eq_skeleton]; unfold k0_part72_skel
  simp only [Prog.lift, Prog.bind_op, Prog.bind_ret, Prog.pure_eq_ret]
  exact sent m K c 11 (sent m K c 12 (sent m K c 13 (h _)))

theorem part73 {α : Type} {Q : α → sProp 𝕄} {k} (h : ∀ r, St m K c 132 ⊢ wpc c (k r) Q) :
    St m K c 128 ⊢ wpc c (k0_part73 (F := F) xM (Memref.isWhole_whole _) wM (Memref.isWhole_whole _) oM (Memref.isWhole_whole _) gM (Memref.isWhole_whole _) cc0_scratch1 cc0_scratch2 c >>= k) Q := by
  rw [k0_part73_eq_skeleton]; unfold k0_part73_skel
  simp only [Prog.lift, Prog.bind_op, Prog.bind_ret, Prog.pure_eq_ret]
  exact sent m K c 14 (sent m K c 15 (sent m K c 16 (sent m K c 17 (h _))))

theorem part74 {α : Type} {Q : α → sProp 𝕄} {k} (h : ∀ r, St m K c 136 ⊢ wpc c (k r) Q) :
    St m K c 132 ⊢ wpc c (k0_part74 (F := F) xM (Memref.isWhole_whole _) wM (Memref.isWhole_whole _) oM (Memref.isWhole_whole _) gM (Memref.isWhole_whole _) cc0_scratch1 cc0_scratch2 c >>= k) Q := by
  rw [k0_part74_eq_skeleton]; unfold k0_part74_skel
  simp only [Prog.lift, Prog.bind_op, Prog.bind_ret, Prog.pure_eq_ret]
  exact sent m K c 18 (sent m K c 19 (sent m K c 20 (sent m K c 21 (h _))))

theorem part75 {α : Type} {Q : α → sProp 𝕄} {k} (h : ∀ r, St m K c 140 ⊢ wpc c (k r) Q) :
    St m K c 136 ⊢ wpc c (k0_part75 (F := F) xM (Memref.isWhole_whole _) wM (Memref.isWhole_whole _) oM (Memref.isWhole_whole _) gM (Memref.isWhole_whole _) cc0_scratch1 cc0_scratch2 c >>= k) Q := by
  rw [k0_part75_eq_skeleton]; unfold k0_part75_skel
  simp only [Prog.lift, Prog.bind_op, Prog.bind_ret, Prog.pure_eq_ret]
  exact sent m K c 22 (sent m K c 23 (sent m K c 24 (sent m K c 25 (h _))))

theorem part76 {α : Type} {Q : α → sProp 𝕄} {k} (h : ∀ r, St m K c 143 ⊢ wpc c (k r) Q) :
    St m K c 140 ⊢ wpc c (k0_part76 (F := F) xM (Memref.isWhole_whole _) wM (Memref.isWhole_whole _) oM (Memref.isWhole_whole _) gM (Memref.isWhole_whole _) cc0_scratch1 cc0_scratch2 c >>= k) Q := by
  rw [k0_part76_eq_skeleton]; unfold k0_part76_skel
  simp only [Prog.lift, Prog.bind_op, Prog.bind_ret, Prog.pure_eq_ret]
  exact sent m K c 26 (sent m K c 27 (sent m K c 28 (h _)))

theorem part77 {α : Type} {Q : α → sProp 𝕄} {k} (h : ∀ r, St m K c 147 ⊢ wpc c (k r) Q) :
    St m K c 143 ⊢ wpc c (k0_part77 (F := F) xM (Memref.isWhole_whole _) wM (Memref.isWhole_whole _) oM (Memref.isWhole_whole _) gM (Memref.isWhole_whole _) cc0_scratch1 cc0_scratch2 c >>= k) Q := by
  rw [k0_part77_eq_skeleton]; unfold k0_part77_skel
  simp only [Prog.lift, Prog.bind_op, Prog.bind_ret, Prog.pure_eq_ret]
  exact sent m K c 29 (sent m K c 30 (sent m K c 31 (sent m K c 32 (h _))))

theorem part78 {α : Type} {Q : α → sProp 𝕄} {k} (h : ∀ r, St m K c 151 ⊢ wpc c (k r) Q) :
    St m K c 147 ⊢ wpc c (k0_part78 (F := F) xM (Memref.isWhole_whole _) wM (Memref.isWhole_whole _) oM (Memref.isWhole_whole _) gM (Memref.isWhole_whole _) cc0_scratch1 cc0_scratch2 c >>= k) Q := by
  rw [k0_part78_eq_skeleton]; unfold k0_part78_skel
  simp only [Prog.lift, Prog.bind_op, Prog.bind_ret, Prog.pure_eq_ret]
  exact sent m K c 33 (sent m K c 34 (sent m K c 35 (sent m K c 36 (h _))))

theorem part79 {α : Type} {Q : α → sProp 𝕄} {k} (h : ∀ r, St m K c 155 ⊢ wpc c (k r) Q) :
    St m K c 151 ⊢ wpc c (k0_part79 (F := F) xM (Memref.isWhole_whole _) wM (Memref.isWhole_whole _) oM (Memref.isWhole_whole _) gM (Memref.isWhole_whole _) cc0_scratch1 cc0_scratch2 c >>= k) Q := by
  rw [k0_part79_eq_skeleton]; unfold k0_part79_skel
  simp only [Prog.lift, Prog.bind_op, Prog.bind_ret, Prog.pure_eq_ret]
  exact sent m K c 37 (sent m K c 38 (sent m K c 39 (sent m K c 40 (h _))))

end Cert.KernelIdeal.Proof

end
-- ==== Proof.Body.lean ====
/-
The parts in order: from the entry to the end of the last wait.
-/
module

public import proofs.«01_k».proof.Proof.Entry
public import proofs.«01_k».proof.Proof.PartsA
public import proofs.«01_k».proof.Proof.PartsB
public import proofs.«01_k».proof.Proof.PartsC
public import proofs.«01_k».proof.Proof.PartsD

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- Parts 1 to 60: the printed body binds them as one. -/
theorem part80 {Q : _ → sProp 𝕄}
    (h : ∀ a b r, St m K c 100 ⊢ Q ⟨c, a, b, (k0_pay7 (wAt m c)), r, (k0_pay39 (k0_pay7 (wAt m c)) (rows176 m (dev c 4) 1)), (k0_pay40 (k0_pay7 (wAt m c)) (rows176 m (dev c 4) 1))⟩) :
    Ent m K c ⊢ wpc c (k0_part80 (F := F) xM (Memref.isWhole_whole _) wM (Memref.isWhole_whole _) oM (Memref.isWhole_whole _) gM (Memref.isWhole_whole _) cc0_scratch1 cc0_scratch2) Q := by
  rw [k0_part80_eq_skeleton]; unfold k0_part80_skel
  refine part1 m K c fun _ _ _ => ?_
  refine part2 m K c _ _ _ fun _ => ?_
  refine part3 m K c _ _ ?_
  refine part4 m K c _ _ fun _ => ?_
  refine part5 m K c _ _ _ _ _ fun _ => ?_
  refine part6 m K c _ _ _ _ _ fun _ => ?_
  refine part7 m K c _ _ fun _ => ?_
  refine part8 m K c _ _ fun _ => ?_
  refine part9 m K c _ _ _ fun _ => ?_
  refine part10 m K c _ _ _ fun _ => ?_
  refine part11 m K c _ _ _ fun _ => ?_
  refine part12 m K c _ _ fun _ => ?_
  refine part13 m K c _ _ fun _ => ?_
  refine part14 m K c _ _ fun _ => ?_
  refine part15 m K c _ _ fun _ => ?_
  refine part16 m K c _ fun _ => ?_
  refine part17 m K c _ _ _ _ _ fun _ => ?_
  refine part18 m K c _ _ fun _ => ?_
  refine part19 m K c _ _ _ fun _ => ?_
  refine part20 m K c _ _ _ _ fun _ => ?_
  refine part21 m K c _ _ fun _ => ?_
  refine part22 m K c _ _ _ fun _ => ?_
  refine part23 m K c _ fun _ => ?_
  refine part24 m K c _ _ fun _ => ?_
  refine part25 m K c _ _ fun _ => ?_
  refine part26 m K c _ fun _ => ?_
  refine part27 m K c _ _ _ _ fun _ => ?_
  refine part28 m K c _ _ fun _ => ?_
  refine part29 m K c _ fun _ => ?_
  refine part30 m K c _ _ _ _ _ fun _ => ?_
  refine part31 m K c _ _ fun _ => ?_
  refine part32 m K c _ _ _ fun _ => ?_
  refine part33 m K c _ _ _ _ _ fun _ => ?_
  refine part34 m K c _ _ fun _ => ?_
  refine part35 m K c _ _ fun _ => ?_
  refine part36 m K c _ _ _ _ fun _ => ?_
  refine part37 m K c _ fun _ => ?_
  refine part38 m K c _ _ _ fun _ => ?_
  refine part39 m K c _ _ _ _ _ fun _ => ?_
  refine part40 m K c _ fun _ => ?_
  refine part41 m K c _ _ fun _ => ?_
  refine part42 m K c _ _ fun _ => ?_
  refine part43 m K c _ _ _ _ fun _ => ?_
  refine part44 m K c _ _ fun _ => ?_
  refine part45 m K c _ _ _ fun _ => ?_
  refine part46 m K c _ _ fun _ => ?_
  refine part47 m K c _ _ _ fun _ => ?_
  refine part48 m K c _ _ _ _ fun _ => ?_
  refine part49 m K c _ _ _ _ fun _ => ?_
  refine part50 m K c _ fun _ => ?_
  refine part51 m K c _ _ fun _ => ?_
  refine part52 m K c _ _ _ fun _ => ?_
  refine part53 m K c _ _ _ _ fun _ => ?_
  refine part54 m K c _ _ _ _ fun _ => ?_
  refine part55 m K c _ _ _ _ _ fun _ => ?_
  refine part56 m K c _ _ fun _ => ?_
  refine part57 m K c _ _ fun _ => ?_
  refine part58 m K c _ _ fun _ => ?_
  refine part59 m K c _ _ fun _ => ?_
  refine part60 m K c _ _ _ _ fun _ => ?_
  exact (h _ _ _).trans fupd_intro

/-- The body, from the entry to the end of its 156 events. -/
theorem body_run {Q : PUnit → sProp 𝕄} (h : St m K c 156 ⊢ Q ⟨⟩) :
    Ent m K c ⊢ wpc c (cc0_body (F := F) xM (Memref.isWhole_whole _) wM (Memref.isWhole_whole _) oM (Memref.isWhole_whole _) gM (Memref.isWhole_whole _) cc0_scratch1 cc0_scratch2) Q := by
  rw [cc0_body_eq_skeleton]; unfold cc0_body_skel
  rw [wpc, wp_bind]
  refine part80 m K c fun _ _ _ => ?_
  refine part61 m K c _ _ fun _ => ?_
  refine part62 m K c _ _ fun _ => ?_
  refine part63 m K c _ _ fun _ => ?_
  refine part64 m K c _ _ _ fun _ => ?_
  refine part65 m K c _ _ fun _ => ?_
  refine part66 m K c _ _ _ fun _ => ?_
  refine part67 m K c _ _ _ fun _ => ?_
  refine part68 m K c _ _ _ _ _ fun _ => ?_
  refine part69 m K c _ fun _ => ?_
  refine part70 m K c fun _ => ?_
  refine part71 m K c fun _ => ?_
  refine part72 m K c fun _ => ?_
  refine part73 m K c fun _ => ?_
  refine part74 m K c fun _ => ?_
  refine part75 m K c fun _ => ?_
  refine part76 m K c fun _ => ?_
  refine part77 m K c fun _ => ?_
  refine part78 m K c fun _ => ?_
  refine part79 m K c fun _ => ?_
  exact sent m K c 41 (h.trans fupd_intro)

end Cert.KernelIdeal.Proof

end
-- ==== Proof.Ends.lean ====
/-
From what the launch deals to the entry of the body, and from the end of the body to what the launch takes back.
-/
module

public import proofs.«01_k».proof.Proof.Deal
public import proofs.«01_k».proof.Proof.Body

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The gathered matrix's buffer in pieces -/

/-- Every row is one of the six bands', and only one's. -/
theorem six (ρ : Fin 512) : ∃ q : Fin 6, at_ [0, 80, 176, 256, 352, 432] q.val ≤ ρ.val ∧ ρ.val < at_ [0, 80, 176, 256, 352, 432] q.val + at_ [80, 96, 80, 96, 80, 80] q.val := by
  revert ρ; decide +kernel
theorem six_one (q q' : Fin 6) (h : at_ [0, 80, 176, 256, 352, 432] q.val < at_ [0, 80, 176, 256, 352, 432] q'.val + at_ [80, 96, 80, 96, 80, 80] q'.val)
    (h' : at_ [0, 80, 176, 256, 352, 432] q'.val < at_ [0, 80, 176, 256, 352, 432] q.val + at_ [80, 96, 80, 96, 80, 80] q.val) : q = q' := by
  revert q q'; decide +kernel

theorem reg_disjoint {k k' : Key} (h : k ≠ k') : Disjoint (reg c k) (reg c k') := by
  rw [Finset.disjoint_left]
  intro i hi hi'
  unfold reg at hi hi'
  rw [mem_band] at hi hi'
  have h1 : kR k = kR k' := dev_inj c (Fin.ext (hi.1.symm.trans hi'.1))
  have h2 := six_one ⟨k.val / 8, by omega⟩ ⟨k'.val / 8, by omega⟩ (lt_of_le_of_lt hi.2.1 hi'.2.2) (lt_of_le_of_lt hi'.2.1 hi.2.2)
  have h3 : k.val / 8 = k'.val / 8 := congrArg Fin.val h2
  have h4 : k.val % 8 = k'.val % 8 := congrArg Fin.val h1
  exact h (Fin.ext (by omega))

theorem reg_cover : (Finset.univ.biUnion (reg c) : Finset S8x512x4096.Idx) = Finset.univ := by
  refine Finset.eq_univ_iff_forall.mpr fun i => Finset.mem_biUnion.mpr ?_
  obtain ⟨q, h1, h2⟩ := six ⟨(i 1).val, (i 1).isLt⟩
  obtain ⟨r, hr⟩ : ∃ r : Fin 8, dev c r = ⟨(i 0).val, (i 0).isLt⟩ := ⟨_, dev_dev c _⟩
  have hq : (8 * q.val + r.val) / 8 = q.val := by omega
  refine ⟨⟨8 * q.val + r.val, by omega⟩, Finset.mem_univ _, ?_⟩
  unfold reg kLo kSz
  rw [mem_band, hq, show kR ⟨8 * q.val + r.val, by omega⟩ = r from Fin.ext (by show (8 * q.val + r.val) % 8 = r.val; omega), hr]
  exact ⟨rfl, h1, h2⟩

/-- The whole buffer is its pieces. -/
theorem whole_eq (q : PosShare TreeShare) (f : Buf (Elt F) (gL c)) : (gL c ↦{q} f : sProp 𝕄) = bigSep Finset.univ fun k : Key => pieceAt c k q f := by
  unfold pieceAt
  have h : (gL c ↦[Finset.univ.biUnion (reg c)]{q} f : sProp 𝕄) = bigSep Finset.univ fun k : Key => gL c ↦[reg c k]{q} f := pointsTo_biUnion (ℓ := gL c) (q := q) (f := f) Finset.univ (reg c) fun k _ k' _ h => reg_disjoint c h
  rw [reg_cover] at h
  exact h

/-- Transfers sorted by dimension. -/
theorem by_dim (Ψ : Snd → sProp 𝕄) :
    bigSep Finset.univ Ψ = bigSep Finset.univ fun d : Fin 3 => bigSep Finset.univ fun s : Snd => if sDim s = d then Ψ s else iprop(emp) := by
  rw [BI.bigSep_univ_comm]
  refine bigSep_congr fun s _ => ?_
  rw [bigSep_univ_at _ (sDim s), if_pos rfl, bigSep_congr (Ψ := fun _ => iprop(emp)) fun d hd => if_neg fun h => (Finset.mem_erase.mp hd).1 h.symm]
  exact ((congrArg (fun P : sProp 𝕄 => iprop(Ψ s ∗ P)) (BI.bigSep_emp_const _)).trans (equiv_iff.mp BI.sep_emp)).symm

theorem fin3_eq (Ψ : Fin 3 → sProp 𝕄) : bigSep Finset.univ Ψ = iprop(Ψ 0 ∗ Ψ 1 ∗ Ψ 2) := bigSep_univ_eq_bigSepL [0, 1, 2] (by decide) (by decide) Ψ

theorem own_iff (k : Key) : (∀ s : Snd, some (sDst s) ≠ some k) ↔ kR k = 0 := by
  refine ⟨fun h => by_contra fun hk => h (kFrom k) (congrArg some (sDst_kFrom k hk)), fun h s hs => kR_sDst s ?_⟩
  rw [Option.some.inj hs, h]

theorem room_intro (k : Key) (f : Buf (Elt F) (gL c)) : pieceAt c k fullShare f ⊢ room (F := F) c k := by
  unfold room
  iintro H
  iexists f
  iexact H

/-- The buffer, at any contents, is the room for the device's own pieces and the room it lends its neighbours. -/
theorem rooms_split : (iprop(∃ f, gL c ↦{fullShare} f) : sProp 𝕄)
    ⊢ iprop((bigSep Finset.univ fun k : Key => if kR k = 0 then room c k else iprop(emp)) ∗ lent c 0 ∗ lent c 1 ∗ lent c 2) := by
  have h1 : (iprop(∃ f, gL c ↦{fullShare} f) : sProp 𝕄) ⊢ bigSep Finset.univ (room (F := F) c) := by
    iintro ⟨%f, H⟩
    ihave H := (Entails.of_eq (whole_eq (F := F) c fullShare f)) $$ H
    iapply (show (bigSep Finset.univ fun k : Key => pieceAt c k fullShare f : sProp 𝕄) ⊢ bigSep Finset.univ (room (F := F) c) from
      bigSep_mono fun k _ => room_intro c k f)
    iexact H
  have h4 : bigSep Finset.univ (room (F := F) c) ⊢ iprop((bigSep Finset.univ fun s : Snd => room (F := F) c (sDst s))
      ∗ bigSep Finset.univ fun k : Key => if ∀ s : Snd, some (sDst s) ≠ some k then room (F := F) c k else iprop(emp)) :=
    BI.bigSep_along_rest (fun s => some (sDst s)) (fun s s' k h h' => sDst_inj (Option.some.inj (h.trans h'.symm))) (room (F := F) c)
  refine h1.trans (h4.trans ?_)
  have h2 : (bigSep Finset.univ fun k : Key => if ∀ s : Snd, some (sDst s) ≠ some k then room (F := F) c k else iprop(emp))
      = bigSep Finset.univ fun k : Key => if kR k = 0 then room (F := F) c k else iprop(emp) :=
    bigSep_congr fun k _ => if_congr (own_iff k) rfl rfl
  have h3 : (bigSep Finset.univ fun s : Snd => room (F := F) c (sDst s)) = iprop(lent (F := F) c 0 ∗ lent c 1 ∗ lent c 2) := by
    rw [by_dim, fin3_eq]; rfl
  iintro ⟨H1, H2⟩
  isplitl [H2]
  · iapply (Entails.of_eq h2); iexact H2
  · iapply (Entails.of_eq h3); iexact H1

/-! ## The entry -/

theorem keys_intro :
    iprop((bigSep Finset.univ fun k : Key => atPos ER (recvCell c k) 0 ∅ 0) ∗ (bigSep Finset.univ fun k : Key => if kR k = 0 then room c k else iprop(emp))
        ∗ bigSep Finset.univ fun k : Key => if kR k = 0 then iprop(emp) else cred (tallyAt (recvCell c k) () (amt k)))
      ⊢ keys m c 0 := by
  have h (k : Key) : (iprop((if kR k = 0 then room (F := F) c k else iprop(emp)) ∗ (if kR k = 0 then iprop(emp) else cred (tallyAt (recvCell c k) () (amt k)))) : sProp 𝕄)
      = if kR k = 0 then room c k else cred (tallyAt (recvCell c k) () (amt k)) := by
    split
    · exact equiv_iff.mp BI.sep_emp
    · exact equiv_iff.mp BI.emp_sep
  rw [← bigSep_sep', ← bigSep_sep']
  unfold keys keyAt pend
  exact bigSep_mono fun k _ => by rw [if_pos (Nat.zero_le _), h k]; exact BI.Entails.refl _

theorem pos_eq : (bigSep Finset.univ fun x : Cell => (atPos ER (kcell (c, x)) 0 ∅ 0 : sProp 𝕄))
    = iprop(((bigSep Finset.univ fun s : Snd => atPos ER (sendCell c s) 0 ∅ 0) ∗ (bigSep Finset.univ fun k : Key => atPos ER (recvCell c k) 0 ∅ 0)) ∗ atPos ER (barCell c) 0 ∅ 0) := by
  rw [BI.bigSep_univ_sum, BI.bigSep_univ_of_subsingleton (), BI.bigSep_univ_sum]; rfl

theorem pay_eq : (payToks (F := F) c)
    = iprop((bigSep Finset.univ fun s : Snd => dutyTok ER (sendCell c s) 0 0)
      ∗ (bigSep Finset.univ fun s : Snd => dutyTok ER (recvCell (nbr c (sDim s)) (sDst s)) 0 0)
      ∗ dutyTok ER (barCell (nbr c 0)) 0 0 ∗ dutyTok ER (barCell (nbr c 1)) 0 1 ∗ dutyTok ER (barCell (nbr c 2)) 0 2) := by
  unfold payToks
  rw [BI.bigSep_univ_sum, BI.bigSep_univ_sum, ← fin3_eq fun d => (dutyTok ER (barCell (nbr c d)) 0 d : sProp 𝕄)]; rfl

/-- What device `c` starts from. -/
def Start : sProp 𝕄 :=
  iprop(dealt' m c ∗ levAts L lv ∗ cred (tallyAt (barCell c) () 3)
    ∗ (bigSep Finset.univ fun k : Key => if kR k = 0 then iprop(emp) else cred (tallyAt (recvCell c k) () (amt k))))

/-- With its buffers it is at the body's entry. -/
theorem Ent_intro :
    iprop((records m K ∗ linear (F := F) c) ∗ (levAts L lv ∗ cred (tallyAt (barCell c) () 3)
        ∗ (bigSep Finset.univ fun k : Key => if kR k = 0 then iprop(emp) else cred (tallyAt (recvCell c k) () (amt k))))
      ∗ (∃ f, gL c ↦{fullShare} f) ∗ (∃ W, owes (c : Thread nD τ) (owed₀ c) W) ∗ xHeld m c ∗ wHeld m c ∗ (∃ f, oL c ↦{fullShare} f))
    ⊢ Ent m K c := by
  have hU : (iprop((bigSep Finset.univ fun s : Snd => dutyTok ER (sendCell c s) 0 0) ∗ (bigSep Finset.univ fun s : Snd => dutyTok ER (recvCell (nbr c (sDim s)) (sDst s)) 0 0)
      ∗ bigSep Finset.univ fun s : Snd => atPos ER (sendCell c s) 0 ∅ 0) : sProp 𝕄) = bigSep Finset.univ fun s : Snd => unready (F := F) c s := by
    unfold unready; rw [bigSep_sep', bigSep_sep']
  unfold linear
  rw [pos_eq, pay_eq]
  iintro ⟨⟨#HR, ⟨⟨HaS, HaK⟩, HaB⟩, HtS, HtK, Ht0, Ht1, Ht2⟩, ⟨#HL, HcB, HcK⟩, Hg, HO, Hx, Hw, ⟨%f, Ho⟩⟩
  ihave Hg := (rooms_split (F := F) c) $$ Hg
  icases Hg with ⟨Hown, Hl0, Hl1, Hl2⟩
  unfold Ent sig1 rest0
  isplitr; · iexact HR
  isplitr; · iexact HL
  isplitl [HO]; · iexact HO
  isplitl [Ht0 Hl0]; · isplitl [Ht0] <;> iassumption
  isplitl [Ht1 Hl1]; · isplitl [Ht1] <;> iassumption
  isplitl [Ht2 Hl2]; · isplitl [Ht2] <;> iassumption
  isplitl [HaB]; · iexact HaB
  isplitl [HcB]; · iexact HcB
  isplitl [HaK Hown HcK]
  · iapply (keys_intro m c)
    isplitl [HaK]; · iexact HaK
    isplitl [Hown] <;> iassumption
  isplitl [HtS HtK HaS]
  · iapply (Entails.of_eq hU)
    isplitl [HtS]; · iexact HtS
    isplitl [HtK] <;> iassumption
  isplitl [Ho]
  · unfold result
    iexists f
    isplitr; · ipureintro; exact fun p hp => absurd hp (Nat.not_lt_zero _)
    iexact Ho
  isplitl [Hx] <;> iassumption

/-! ## The end -/

theorem box_cover (i : S4096x256.Idx) : ∃ p, i ∈ box c p := by
  have hi : (i 0).val < 4096 := (i 0).isLt
  obtain ⟨r, hr⟩ : ∃ r : Fin 8, dev c r = ⟨(i 0).val / 512, by omega⟩ := ⟨_, dev_dev c _⟩
  obtain ⟨j, hj⟩ : ∃ j : Fin 3, 176 * j.val ≤ (i 0).val % 512 ∧ (i 0).val % 512 < 176 * j.val + jSz j := by
    by_cases h1 : (i 0).val % 512 < 176
    · exact ⟨0, Nat.zero_le _, by show _ < 176 * 0 + 176; omega⟩
    by_cases h2 : (i 0).val % 512 < 352
    · exact ⟨1, by show 176 * 1 ≤ _; omega, by show _ < 176 * 1 + 176; omega⟩
    · exact ⟨2, by show 176 * 2 ≤ _; omega, by show _ < 176 * 2 + 160; omega⟩
  refine ⟨⟨8 * j.val + r.val, by omega⟩, mem_box.mpr ?_⟩
  unfold bLo jLo
  rw [show bR ⟨8 * j.val + r.val, by omega⟩ = r from Fin.ext (by show (8 * j.val + r.val) % 8 = r.val; omega),
    show bJ ⟨8 * j.val + r.val, by omega⟩ = j from Fin.ext (by show (8 * j.val + r.val) / 8 = j.val; omega), hr]
  show 512 * ((i 0).val / 512) + 176 * j.val ≤ (i 0).val ∧ (i 0).val < 512 * ((i 0).val / 512) + 176 * j.val + jSz j
  omega

theorem result_end : result m c 156 ⊢ (oL c ↦{fullShare} outAt m c) := by
  unfold result
  iintro ⟨%f, %hf, H⟩
  have e : f = outAt m c := funext fun i => by
    obtain ⟨p, hp⟩ := box_cover c i
    exact hf p (tComp_lt_156 p) i hp
  subst e
  iexact H

theorem keys_end : keys m c 156 ⊢ iprop((bigSep Finset.univ fun k : Key => semVal (recvCell c k) 0) ∗ gL c ↦{fullShare} gAt m c) := by
  rw [whole_eq, ← bigSep_sep']
  unfold keys
  refine bigSep_mono fun k _ => ?_
  unfold keyAt held share
  have h0 := tBack_lt_156 k 0
  have h1 := tBack_lt_156 k 1
  have h2 := tHave_lt_156 k
  rw [if_neg (by omega), if_neg (by omega), if_neg (by omega)]
  exact sep_mono_right (piece_thirds m c k).2

theorem sends_end : sends (F := F) c 156 = bigSep Finset.univ fun s : Snd => semVal (sendCell c s) 0 :=
  bigSep_congr fun s _ => by
    unfold sendAt
    have h0 := tSend_lt_156 s
    have h1 := tWait_lt_156 s
    rw [if_neg (by omega), if_neg (by omega)]

/-- The semaphores at zero and the gathered matrix. -/
def End : sProp 𝕄 :=
  iprop((∃ f, gL c ↦{fullShare} f) ∗ (Pipeline.ownSems0 (Ix := Unit) (Name := ℕ) (U := UU) (Lvl := ℕ) (Val := Elt F) (τ := τ) osem c) ∗ unscopedSems0 c)

/-- After its events a device holds its semaphores at zero, its buffers whole and the result computed. -/
theorem St_end : St m K c 156 ⊢ iprop(End (F := F) c ∗ (∃ W, owes (c : Thread nD τ) 0 W) ∗ xHeld m c ∗ wHeld m c ∗ oL c ↦{fullShare} outAt m c) := by
  have hO : (Pipeline.ownSems0 (Ix := Unit) (Name := ℕ) (U := UU) (Lvl := ℕ) (Val := Elt F) (τ := τ) osem c : sProp 𝕄)
      = iprop((bigSep Finset.univ fun s : Snd => semVal (sendCell c s) 0) ∗ bigSep Finset.univ fun k : Key => semVal (recvCell c k) 0) := by
    unfold Pipeline.ownSems0; rw [BI.bigSep_univ_sum]; rfl
  unfold St owing End
  rw [owed_end, sends_end, hO, unscopedSems0_eq]
  iintro ⟨-, -, HO, Hk, Hs, Hr, Hx, Hw, Hb⟩
  ihave Hk := (keys_end m c) $$ Hk
  icases Hk with ⟨Hz, Hg⟩
  ihave Hr := (result_end m c) $$ Hr
  isplitl [Hz Hg Hs Hb]
  · isplitl [Hg]; · iexists _; iexact Hg
    isplitl [Hs Hz]
    · isplitl [Hs] <;> iassumption
    iexact Hb
  isplitl [HO]; · iexact HO
  isplitl [Hx]; · iexact Hx
  isplitl [Hw] <;> iassumption

end Cert.KernelIdeal.Proof

end
-- ==== Proof.Credits.lean ====
/-
What the devices owe one another at launch, and the credit each starts with for it.
-/
module

public import proofs.«01_k».proof.Proof.State

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The launch credit -/

theorem recv_ne_bar (a b : Dev nD) (k : Key) : recvCell a k ≠ barCell b := fun h => by
  have := kcell_injective (a₁ := (a, .inl (.inr k))) (a₂ := (b, .inr ())) h
  cases this
theorem bar_inj {a b : Dev nD} (h : barCell a = barCell b) : a = b := congrArg (fun g : GSem nD τ sig => g.1.1) h
theorem recv_inj {a b : Dev nD} {k k' : Key} (h : recvCell a k = recvCell b k') : a = b ∧ k = k' := by
  have h' := kcell_injective (a₁ := (a, .inl (.inr k))) (a₂ := (b, .inl (.inr k'))) h
  cases h'
  exact ⟨rfl, rfl⟩

theorem owed₀_apply (d : Dev nD) (g : GSem nD τ sig) (u : Unit) :
    owed₀ d g u = owed d 0 g u + tallyAt (barCell (nbr d 2)) () 1 g u + tallyAt (barCell (nbr d 1)) () 1 g u + tallyAt (barCell (nbr d 0)) () 1 g u := rfl

theorem tally_bar (d a : Dev nD) (i : Fin 3) : (tallyAt (barCell (nbr d i)) () 1 : CellTallies nD τ sig Unit) (barCell a) () = if d = nbr a i then 1 else 0 := by
  rw [tallyAt_apply]
  refine if_congr ⟨fun h => ?_, fun h => ⟨?_, rfl⟩⟩ rfl rfl
  · rw [bar_inj h.1, nbr_nbr]
  · rw [h, nbr_nbr]

/-- What device `d` owes device `a`'s barrier; -/
theorem owed_bar (d a : Dev nD) : owed₀ d (barCell a) () = (if d = nbr a 2 then 1 else 0) + (if d = nbr a 1 then 1 else 0) + (if d = nbr a 0 then 1 else 0) := by
  rw [owed₀_apply, tally_bar, tally_bar, tally_bar, owed_apply, Finset.sum_eq_zero fun s _ => if_neg fun h => recv_ne_bar _ _ _ h.2.symm, Nat.zero_add]

/-- the receive cell of a piece device `a` receives. -/
theorem owed_recv (d a : Dev nD) (k : Key) (hk : kR k ≠ 0) : owed₀ d (recvCell a k) () = if d = nbr a (sDim (kFrom k)) then amt k else 0 := by
  have ht (i : Fin 3) : (tallyAt (barCell (nbr d i)) () 1 : CellTallies nD τ sig Unit) (recvCell a k) () = 0 := by
    rw [tallyAt_ne_cell fun h => recv_ne_bar _ _ _ h]; rfl
  rw [owed₀_apply, ht, ht, ht, owed_apply]
  simp only [Nat.add_zero]
  rw [Finset.sum_eq_single (kFrom k)]
  · rw [← amt_sDst, sDst_kFrom k hk]
    refine if_congr ⟨fun h => ?_, fun h => ⟨Nat.zero_le _, ?_⟩⟩ rfl rfl
    · rw [(recv_inj h.2).1, nbr_nbr]
    · rw [h, nbr_nbr]
  · exact fun s _ hs => if_neg fun h => hs (by rw [(recv_inj h.2).2, kFrom_sDst])
  · exact fun h => absurd (Finset.mem_univ _) h

theorem launch_bar :
    tallyOn (barCell c) (launchCredit (Pipeline.owing owed₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]

theorem launch_recv (k : Key) (hk : kR k ≠ 0) :
    tallyOn (recvCell c k) (launchCredit (Pipeline.owing owed₀) 0 (recvCell c k)) = (tallyAt (recvCell c k) () (amt k) : CellTallies nD τ sig Unit) := by
  unfold tallyAt; refine congrArg _ (Finsupp.ext fun u => ?_); cases u
  rw [Pipeline.launchCredit_owing, Finsupp.single_eq_same, Finset.sum_congr rfl fun d _ => owed_recv d c k hk, Finset.sum_ite_eq', if_pos (Finset.mem_univ _)]

/-- The semaphores a device is credited at. -/
def credAt : Unit ⊕ Key → Option (SemLoc sig)
  | .inl _ => some (.reg barS)
  | .inr k => if kR k = 0 then none else some (.dma (recvS k))
theorem credAt_inj (x y : Unit ⊕ Key) (q : SemLoc sig) (hx : credAt x = some q) (hy : credAt y = some q) : x = y := by
  have h (z : Unit ⊕ Key) (hz : credAt z = some q) : q = csem (match z with | .inl _ => .inr () | .inr k => .inl (.inr k)) := by
    rcases z with u | k
    · exact (Option.some.inj hz).symm
    · unfold credAt at hz
      dsimp only at hz
      split at hz
      · cases hz
      · exact (Option.some.inj hz).symm
  have e := csem_inj ((h x hx).symm.trans (h y hy))
  rcases x with u | k <;> rcases y with u' | k'
  · rfl
  · cases e
  · cases e
  · cases e; rfl

/-- The launch credit pays for a device's waits. -/
theorem creds : (Pipeline.launchCred owed₀ c : sProp 𝕄)
    ⊢ iprop(cred (tallyAt (barCell c) () 3) ∗ bigSep Finset.univ fun k : Key => if kR k = 0 then iprop(emp) else cred (tallyAt (recvCell c k) () (amt k))) := by
  have e2 : (bigSep Finset.univ fun x : Unit ⊕ Key => (credAt x).elim iprop(emp) fun sm : SemLoc sig =>
        (cred (tallyOn ((c : Thread nD τ), sm) (launchCredit (Pipeline.owing owed₀) 0 ((c : Thread nD τ), sm))) : sProp 𝕄))
      = iprop(cred (tallyAt (barCell c) () 3) ∗ bigSep Finset.univ fun k : Key => if kR k = 0 then iprop(emp) else cred (tallyAt (recvCell c k) () (amt k))) := by
    rw [BI.bigSep_univ_sum, BI.bigSep_univ_of_subsingleton ()]
    refine congrArg₂ (fun P R : sProp 𝕄 => iprop(P ∗ R)) (congrArg cred (launch_bar c)) (bigSep_congr fun k _ => ?_)
    unfold credAt
    dsimp only
    by_cases hk : kR k = 0
    · rw [if_pos hk, if_pos hk]; rfl
    · rw [if_neg hk, if_neg hk]; exact congrArg cred (launch_recv c k hk)
  rw [← e2]
  unfold Pipeline.launchCred
  exact BI.bigSep_along credAt credAt_inj _

/-! ## The staging semaphores' waits -/

theorem owed₀_pos {d : Dev nD} {g : GSem nD τ sig} {u : Unit} (h : 0 < owed₀ d g u) : (∃ a k, g = recvCell a k ∧ 2 ≤ kLev k) ∨ ∃ a, g = barCell a := by
  by_contra hn
  have ht (i : Fin 3) : (tallyAt (barCell (nbr d i)) () 1 : CellTallies nD τ sig Unit) g u = 0 := by
    rw [tallyAt_ne_cell fun h' => hn (Or.inr ⟨_, h'⟩)]; rfl
  rw [owed₀_apply, ht, ht, ht] at h
  simp only [Nat.add_zero] at h
  obtain ⟨s, -, hs⟩ := owed_pos h
  exact hn (Or.inl ⟨_, _, hs, lev_dst s⟩)

/-- A staging semaphore may be waited for whatever is owed. -/
theorem mayWait_stage (sm : SemLoc sig) (hsm : lv ((c : Thread nD τ), sm) () = 0) (O : CellTallies nD τ sig Unit) (hO : O = owed₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨a, k, rfl, -⟩ | ⟨a, rfl⟩ <;> exact Finset.mem_singleton_self _)
      (fun p hp => by rw [Finset.mem_singleton.mp hp]; exact hsm.le)
      (fun g u hg => by
        rcases owed₀_pos hg with ⟨a, k, rfl, hk⟩ | ⟨a, rfl⟩
        · rw [lv_recv]; omega
        · rw [lv_bar]; decide)
  · rw [MayWait_zero]; iintro -; iempintro

end Cert.KernelIdeal.Proof

end
-- ==== Proof.Launch.lean ====
/-
The launch of the eight devices, and what every execution ends with.
-/
module

public import proofs.«01_k».proof.Proof.Ends
public import proofs.«01_k».proof.Proof.Credits
public import proofs.«01_k».proof.Proof.Gen.KernelIdeal.Points
public import Idealize.ShloMosaic.Lib.Pipeline.CollectiveSegs

@[expose] public section

noncomputable section

namespace Cert.KernelIdeal.Proof

open Cert.KernelIdeal Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

variable (ρ : Dev nD → PrngReg)

/-! ## The pipeline's data -/

/-- The start: the memory, the counters at zero. -/
abbrev s₀ : MemSt nD τ sig (Elt F) := ⟨m, fun _ => 0, ρ⟩

/-- Before the one point, and after it. -/
def Φ₀ : sProp 𝕄 := iprop(Start m c ∗ ∃ f, gL c ↦{fullShare} f)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => outAt m c
  Φ t := match t with
    | ⟨0, _⟩ => Φ₀ m c
    | ⟨_ + 1, _⟩ => End (F := F) c
  q _ := fullShare
  owed t := match t with
    | ⟨0, _⟩ => owed₀ c
    | ⟨_ + 1, _⟩ => 0

theorem bigSep_W (Ψ : Fin cfg0.W → sProp 𝕄) : bigSep Finset.univ Ψ = iprop(Ψ (0 : Fin 3) ∗ Ψ (1 : Fin 3) ∗ Ψ (2 : Fin 3)) := bigSep_W0 Ψ

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer holding `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (d) : (dats m 0 c).before (0 : Fin 3) t0_0 d = xAt m c := by
  unfold Dat.before
  rw [if_pos (fetch0_0 t0_0)]
  refine Eq.trans (b := ((cfg0.win (0 : Fin 3)).blk t0_0).view.read (Elt F) ((dats m 0 c).A (0 : Fin 3))) rfl ?_
  exact Memref.read_access_unit_zero (Elt F) main_arg0 (off := fun a => 0 * main_arg0.ty.shape.size a) (funext fun a => Nat.zero_mul _) _ _
theorem before_w (d) : (dats m 0 c).before (1 : Fin 3) t0_0 d = wAt m c := by
  unfold Dat.before
  rw [if_pos (fetch0_1 t0_0)]
  refine Eq.trans (b := ((cfg0.win (1 : Fin 3)).blk t0_0).view.read (Elt F) ((dats m 0 c).A (1 : Fin 3))) rfl ?_
  exact Memref.read_access_unit_zero (Elt F) main_arg1 (off := fun a => 0 * main_arg1.ty.shape.size a) (funext fun a => Nat.zero_mul _) _ _

/-! ## The body -/

def bodyPre : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost : sProp 𝕄 :=
  iprop(End (F := F) c ∗ (dats m 0 c).owesAt () t0_0.succ ∗ stg c cc0_stg0_0 (xAt m c) ∗ stg c cc0_stg1_0 (wAt m c) ∗ stg c cc0_stg2_0 (outAt m c))

theorem post_intro : St m K c 156 ⊢ bodyPost m c := by
  refine (St_end m K c).trans ?_
  unfold bodyPost Dat.owesAt Pipeline.owesWithin xHeld wHeld
  rw [show (dats m 0 c).owed t0_0.succ = 0 from rfl]
  iintro ⟨HE, ⟨%W, HO⟩, Hx, Hw, Ho⟩
  isplitl [HE]; · iexact HE
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem pre_run : bodyPre m c ⊢ wpc c (cc0_body (F := F) xM (Memref.isWhole_whole _) wM (Memref.isWhole_whole _) oM (Memref.isWhole_whole _) gM (Memref.isWhole_whole _) cc0_scratch1 cc0_scratch2) (fun _ => bodyPost m c) := by
  unfold bodyPre Φ₀ Start dealt' Dat.owesAt Pipeline.owesWithin
  simp only [before_x, before_w]
  rw [show (dats m 0 c).owed t0_0.castSucc = owed₀ c from rfl]
  iintro ⟨⟨⟨⟨%K, HK⟩, Hst⟩, Hg⟩, ⟨%W, %hW, HO⟩, ⟨%d0, %g0, %hg0, Hx⟩, ⟨%d1, %g1, %hg1, Hw⟩, ⟨%d2, %g2, %hg2, Ho⟩⟩
  subst hg0 hg1
  iapply (body_run m K c (post_intro m K c))
  iapply (Ent_intro m K c)
  isplitl [HK]; · iexact HK
  isplitl [Hst]; · iexact Hst
  isplitl [Hg]; · iexact Hg
  isplitl [HO]; · iexists W; iexact HO
  isplitl [Hx]; · unfold xHeld; iexact Hx
  isplitl [Hw]; · unfold wHeld; iexact Hw
  iexists g2; iexact Ho

set_option maxRecDepth 40000 in
/-- The library's body obligation on device `c`. -/
theorem body_obligation : BodyObligation (dats (F := F) m 0 c) (defs₀ (F := F)) 𝒱₀ () Set.univ := fun t => by
  rw [fin_N0 t]
  rw [bigSep_W, bigSep_W]
  simp only [owns_whole_eq]
  exact pre_run m c

/-! ## The launch -/

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owed₀ c ∗ prngReg c (ρ c) ∗ dealt' m c)
      ⊢ |={Set.univ}=> iprop(Start m c ∗ emp) := by
  iintro ⟨-, Hlev, Hcr, -, HG⟩
  ihave Hc := (creds (F := F) c) $$ Hcr
  imodintro
  unfold Start
  isplitl
  · isplitl [HG]; · iexact HG
    isplitl [Hlev]; · iexact Hlev
    iexact Hc
  · iempintro

theorem phi0_intro :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = End c from rfl, scopedRest0_eq]
  unfold End
  iintro ⟨Hr, Hz, Hb⟩
  isplitl [Hb]; · iexact Hb
  isplitl [Hz] <;> iassumption

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values and from any memory with zero counters, every weakly fair execution of the eight devices'
    @main terminates with each array at the contents computed and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := dealt m) (G' := dealt' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := Start m) (Y := fun c => unscopedSems0 c) (Z := fun _ => iprop(emp))
    (hX := fun c => start_intro m c ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held; -/
theorem finalA_x : finalA m c (0 : Fin 3) = m ((c : Thread nD τ).loc main_arg0) := (dats m 0 c).arrAt_in (0 : Fin 3) rfl _
theorem finalA_w : finalA m c (1 : Fin 3) = m ((c : Thread nD τ).loc main_arg1) := (dats m 0 c).arrAt_in (1 : Fin 3) rfl _

/-- the result holds the value computed. -/
theorem finalA_o : finalA m c (2 : Fin 3) = outAt m c := by
  unfold finalA
  rw [show cfg0.N = (t0_0 : Fin cfg0.N).val + 1 from rfl, (dats m 0 c).arrAt_succ (2 : Fin 3) t0_0]
  rw [if_pos (flush0_2 t0_0)]
  exact Memref.write_access_unit_zero_univ (Elt F) main_v1 (off := fun a => 0 * main_v1.ty.shape.size a) (funext fun a => Nat.zero_mul _) _ _ _

end Cert.KernelIdeal.Proof

end
-- ==== Proof.Gelu.lean ====
/-
What one block of the product, and the reference's whole array, hold at one element, over the extended reals.
-/
module

public import proofs.«01_k».proof.Proof.Gen.KernelIdeal.Skeleton
public import proofs.«01_k».proof.Proof.Gen.ReferenceIdeal
public import Idealize.ShloMosaic.Lib.Pointwise

@[expose] public section

noncomputable section

namespace Cert.KernelIdeal.Proof

open Cert.KernelIdeal Cert.KernelIdeal.Gen
open Idealize.ShloMosaic

/-- The activation at one number: half of it, times one plus the hyperbolic tangent of its cubic. -/
def gelu (y : EReal) : EReal :=
  Ideal.ofBits .f32 0x3F000000#32 * y * (1 + Ideal.tanh
    (Ideal.ofBits .f32 0x3F4C422A#32 * (y + Ideal.ofBits .f32 0x3D372713#32 * (y * y * y))))

/-- The activation with the cube multiplied out from the constant, as the kernel spells it. -/
theorem gelu_left (y : EReal) : Ideal.ofBits .f32 0x3F000000#32 * y * (1 + Ideal.tanh
    (Ideal.ofBits .f32 0x3F4C422A#32 * (y + Ideal.ofBits .f32 0x3D372713#32 * y * y * y))) = gelu y := by
  unfold gelu
  rw [mul_assoc (Ideal.ofBits .f32 0x3D372713#32 * y) y y, mul_assoc (Ideal.ofBits .f32 0x3D372713#32) y (y * y),
    mul_assoc y y y]

/-- A 176-row block at row `r`, column `c`: the activation of the row's product with the column. -/
theorem pay9_at (w : FVec Ideal S4096x256 .bf16) (x : Vec Ideal S1x176x4096 .bf16) (r : Fin 176) (c : Fin 256) :
    k0_pay9 (k0_pay7 w) x (ix2 r c) = gelu (∑ k : Fin 4096, x (ix3 0 r k) * w (ix2 k c)) := by
  rw [← gelu_left]
  pointwise [k0_pay9, k0_pay7]

/-- The same of a 160-row block. -/
theorem pay10_at (w : FVec Ideal S4096x256 .bf16) (x : Vec Ideal S1x160x4096 .bf16) (r : Fin 160) (c : Fin 256) :
    k0_pay10 (k0_pay7 w) x (ix2 r c) = gelu (∑ k : Fin 4096, x (ix3 0 r k) * w (ix2 k c)) := by
  rw [← gelu_left]
  pointwise [k0_pay10, k0_pay7]

/-- The reference's array, as its run's operations compose it. -/
def refOut (X : FVec Ideal ⟨2, ![4096, 4096]⟩ .bf16) (W : FVec Ideal ⟨2, ![4096, 2048]⟩ .bf16) :
    FVec Ideal ⟨2, ![4096, 2048]⟩ .f32 :=
  let y : FVec Ideal Cert.ReferenceIdeal.S4096x2048 .f32 := extf .f32 (truncf .bf16 (Host.dotGeneral
    Cert.ReferenceIdeal.dot_S4096x4096_S4096x2048_S4096x2048_1_0_0_1_n_n none X W)
      Cert.ReferenceIdeal.Facts₀.bitsLt_bf16_f32) Cert.ReferenceIdeal.Facts₀.bitsLt_bf16_f32
  let k (b : BitVec 32) : FVec Ideal Cert.ReferenceIdeal.S4096x2048 .f32 :=
    broadcastInDim Cert.ReferenceIdeal.S4096x2048 ![] Cert.ReferenceIdeal.Facts₀.bcast_S_S4096x2048
      (constant Cert.ReferenceIdeal.S_ .f32 b)
  mulf (mulf (k 0x3F000000#32) y) (addf (k 0x3F800000#32) (Host.tanh (mulf (k 0x3F4C422A#32)
    (addf y (mulf (k 0x3D372713#32) (mulf (mulf y y) y))))))

/-- The reference's array at row `r`, column `c`: the activation of the row's product with the column. -/
theorem refOut_at (X : FVec Ideal ⟨2, ![4096, 4096]⟩ .bf16) (W : FVec Ideal ⟨2, ![4096, 2048]⟩ .bf16)
    (r : Fin 4096) (c : Fin 2048) :
    refOut X W (ix2 r c) = gelu (∑ k : Fin 4096, X (ix2 r k) * W (ix2 k c)) := by
  pointwise [refOut, gelu]

end Cert.KernelIdeal.Proof

end
-- ==== Proof.Value.lean ====
/-
The kernel's result on a device is that device's columns of the reference's array.
-/
module

public import proofs.«01_k».proof.Proof.State
public import proofs.«01_k».proof.Proof.Gelu

@[expose] public section

noncomputable section

namespace Cert.KernelIdeal.Proof

open Cert.KernelIdeal Cert.KernelIdeal.Gen
open Idealize.ShloMosaic Idealize.ShloMosaic.TcCoe

variable (m : (ℓ : Loc nD τ sig) → Buf (Elt Ideal) ℓ) (c : Dev nD)

/-- The product of row `ρ` of device `d`'s rows with column `y` of device `c`'s columns. -/
def dot (d : Fin 8) (ρ : ℕ) (hρ : ρ < 512) (y : Fin 256) : EReal :=
  ∑ k : Fin 4096, (show EReal from xRow m d ρ hρ k) * (show EReal from wAt m c (ix2 k y))

/-- Equal row numbers name the same product. -/
theorem dot_congr (d : Fin 8) {ρ σ : ℕ} (h : ρ = σ) (hρ : ρ < 512) (y : Fin 256) :
    dot m c d ρ hρ y = dot m c d σ (h ▸ hρ) y := by subst h; rfl

/-- Every element of the result is the activation of its row's product with its column. -/
theorem outRow_at (d : Fin 8) (ρ : ℕ) (hρ : ρ < 512) (y : Fin 256) :
    outRow m c d ρ hρ y = gelu (dot m c d ρ hρ y) := by
  unfold outRow
  split
  · rename_i h
    refine Eq.trans (congrArg (a₂ := ix2 (⟨ρ % 176, Nat.mod_lt _ (by decide)⟩ : Fin 176) y) (blk176 m c d ⟨ρ / 176, by omega⟩)
      (funext fun a => match a with | ⟨0, _⟩ => rfl | ⟨1, _⟩ => rfl)) ?_
    refine (pay9_at (wAt m c) (rows176 m d ⟨ρ / 176, by omega⟩) _ y).trans (congrArg gelu ?_)
    exact dot_congr m c d (σ := ρ) (Nat.div_add_mod ρ 176) (by rw [Nat.div_add_mod]; exact hρ) y
  · rename_i h
    refine Eq.trans (congrArg (a₂ := ix2 (⟨ρ - 352, by omega⟩ : Fin 160) y) (blk160 m c d)
      (funext fun a => match a with | ⟨0, _⟩ => rfl | ⟨1, _⟩ => rfl)) ?_
    refine (pay10_at (wAt m c) (rows160 m d) _ y).trans (congrArg gelu ?_)
    exact dot_congr m c d (σ := ρ) (show 352 + (ρ - 352) = ρ by omega) (show 352 + (ρ - 352) < 512 by omega) y

/-- Where the devices hold the blocks of `X` and `W`, device `c`'s result is its block of the reference's array. -/
theorem outAt_eq (X : FVec Ideal ⟨2, ![4096, 4096]⟩ .bf16) (W : FVec Ideal ⟨2, ![4096, 2048]⟩ .bf16)
    (hx : ∀ d : Dev nD, xAt m d = Layout.block ⟨2, ![512, 4096]⟩ ⟨2, ![4096, 4096]⟩ 0 8 d X)
    (hw : ∀ d : Dev nD, wAt m d = Layout.block ⟨2, ![4096, 256]⟩ ⟨2, ![4096, 2048]⟩ 1 8 d W) :
    outAt m c = Layout.block ⟨2, ![4096, 256]⟩ ⟨2, ![4096, 2048]⟩ 1 8 c (refOut X W) := by
  funext i
  have hi : (i 0).val < 4096 := (i 0).isLt
  have hy : (i 1).val < 256 := (i 1).isLt
  have hc : c.val < 8 := c.isLt
  have e : (by decide : Layout.Tiles ⟨2, ![4096, 256]⟩ ⟨2, ![4096, 2048]⟩ 1 8).idx c i
      = ix2 (⟨(i 0).val, hi⟩ : Fin 4096) (⟨c.val * 256 + (i 1).val, by omega⟩ : Fin 2048) := by
    funext a; match a with | ⟨0, _⟩ => rfl | ⟨1, _⟩ => rfl
  refine (outRow_at m c _ _ _ _).trans (Eq.trans ?_ ((congrArg (refOut X W) e).trans (refOut_at X W _ _)).symm)
  refine congrArg gelu (Finset.sum_congr rfl fun k _ => ?_)
  refine congrArg₂ (· * ·) ?_ ?_
  · unfold xRow
    rw [hx]
    refine congrArg X (funext fun a => ?_)
    match a with
    | ⟨0, _⟩ => exact Fin.ext (by show (i 0).val / 512 * 512 + (i 0).val % 512 = (i 0).val; omega)
    | ⟨1, _⟩ => rfl
  · rw [hw]
    refine congrArg W (funext fun a => ?_)
    match a with
    | ⟨0, _⟩ => rfl
    | ⟨1, _⟩ => rfl

end Cert.KernelIdeal.Proof

end
-- ==== Proof.Same.lean ====
/-
The two printed kernels run the same body tables.
-/
module

public import proofs.«01_k».proof.Proof.Gen.Kernel
public import proofs.«01_k».proof.Proof.Gen.KernelIdeal

@[expose] public section

noncomputable section

namespace Cert.KernelIdeal.Proof

open Idealize.ShloMosaic

variable {F : FTy → Type} [FloatOps F]

/-- Label by label, the kernel's table of bodies is the idealized kernel's. -/
theorem bodies_same : Cert.Kernel.defs₀ (F := F) = Cert.KernelIdeal.defs₀ (F := F) := by
  funext p l x
  cases p <;> exact match l, x with | 0, (t, s) => rfl

/-- So are the tables with the pipeline's own labels. -/
theorem defs_same : Cert.Kernel.defs (F := F) = Cert.KernelIdeal.defs (F := F) :=
  congrArg (Pipeline.defs (Cert.KernelIdeal.pcfgs (F := F))) bodies_same

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- Over any float values the kernel ends, its arguments unchanged and every counter at zero. -/
theorem run_frame {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c =>
      ⟨(h.1 c 0).trans (Cert.KernelIdeal.Proof.finalA_x m c), (h.1 c 1).trans (Cert.KernelIdeal.Proof.finalA_w m c)⟩, h.2⟩)
    (Cert.KernelIdeal.Proof.run_main m ρ)

/-- The kernel over the extended reals ends, its arguments unchanged and every counter at zero. -/
theorem frame_ideal : Cert.quiescent_KernelIdeal := fun m ρ _ => run_frame (F := Ideal) m ρ

/-- The same of the kernel over bit patterns: it is the same program. -/
theorem frame_kernel : Cert.quiescent_Kernel := fun m ρ _ => by
  have h := run_frame (F := Bits) m ρ
  rw [← Cert.KernelIdeal.Proof.defs_same] at h
  exact h

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every device's result is its columns of the reference's array. -/
theorem algebraic : Cert.algebraic_KernelIdeal_ReferenceIdeal := fun m ρ m' ρ' _ hagree =>
  ⟨Cert.KernelIdeal.Proof.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
        ⟨(h.1 c 2).trans ((Cert.KernelIdeal.Proof.finalA_o m c).trans
            (Cert.KernelIdeal.Proof.outAt_eq m c _ _ (fun d => (hagree d).1) (fun d => (hagree d).2))),
          (h.1 c 0).trans (Cert.KernelIdeal.Proof.finalA_x m c), (h.1 c 1).trans (Cert.KernelIdeal.Proof.finalA_w m c)⟩)
      (Cert.KernelIdeal.Proof.run_main (F := Ideal) m ρ),
    (θ_run Cert.ReferenceIdeal.defs _ _).mono (fun _ h => h 0) (Cert.ReferenceIdeal.Value.run (F := Ideal) m' ρ')⟩

/-- Everything claimed: the three programs' facts, the three frames, the idealization, the values. -/
theorem claim : Cert.Claim := ⟨Cert.Kernel.Gen.facts, Cert.KernelIdeal.Gen.facts, Cert.ReferenceIdeal.Gen.facts,
  frame_kernel, frame_ideal, frame_reference, trivial, algebraic⟩

end Cert.Proof

end
